-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S32x128x64 : Shape := ⟨3, ![32, 128, 64]⟩
abbrev S8x128 : Shape := ⟨2, ![8, 128]⟩
abbrev S32x8x128 : Shape := ⟨3, ![32, 8, 128]⟩
abbrev S32 : Shape := ⟨1, ![32]⟩
abbrev S_ : Shape := ⟨0, ![]⟩
abbrev S128x2048 : Shape := ⟨2, ![128, 2048]⟩
abbrev S128x64 : Shape := ⟨2, ![128, 64]⟩
abbrev S1x128x64 : Shape := ⟨3, ![1, 128, 64]⟩
abbrev S1x128x2048 : Shape := ⟨3, ![1, 128, 2048]⟩
abbrev S1 : Shape := ⟨1, ![1]⟩
abbrev S1x1x1 : Shape := ⟨3, ![1, 1, 1]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S4096x64, .f32⟩
  | .local _ .vmem, ⟨0, _⟩ => ⟨S128x4096, .f32⟩
  | .local _ .vmem, ⟨1, _⟩ => ⟨S4096x2048, .f32⟩
  | .local _ .vmem, ⟨2, _⟩ => ⟨S4096x64, .f32⟩
  | .local _ .vmem, ⟨3, _⟩ => ⟨S32x128x64, .f32⟩
  | .local _ .vmem, ⟨4, _⟩ => ⟨S8x128, .f32⟩
  | .local _ .vmem, ⟨5, _⟩ => ⟨S32x8x128, .f32⟩
  | _, _ => ⟨S128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_351 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v549 : BitVec 32 := Scalar.addi v2 c1_i32_351
  let c32_i32_352 : BitVec 32 := 32#32
  let c0_i32_353 : BitVec 32 := 0#32
  let v550 : BitVec 1 := Scalar.cmpi .eq c32_i32_352 c0_i32_353
  let c1_i32_354 : BitVec 32 := 1#32
  let v551 : BitVec 32 := Scalar.select v550 c1_i32_354 c32_i32_352
  let v552 : BitVec 32 := Scalar.remsi v549 v551
  let c0_i32_356 : BitVec 32 := 0#32
  let v554 : BitVec 1 := Scalar.cmpi .slt v552 c0_i32_356
  let c0_i32_357 : BitVec 32 := 0#32
  let v555 : BitVec 1 := Scalar.cmpi .slt v551 c0_i32_357
  let v556 : BitVec 1 := Scalar.xori v554 v555
  let c0_i32_355 : BitVec 32 := 0#32
  let v553 : BitVec 1 := Scalar.cmpi .ne v552 c0_i32_355
  let v557 : BitVec 1 := Scalar.andi v556 v553
  let v558 : BitVec 32 := Scalar.addi v552 v551
  let v559 : BitVec 32 := Scalar.select v557 v558 v552
  ![v559.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v560 : BitVec 32 := Scalar.muli v2 c128_i32
  let c0_i32_360 : BitVec 32 := 0#32
  ![v560.toNat, 0]
def k0_off4 (d0 : Dev nD) (c1_i32_351 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v549 : BitVec 32 := Scalar.addi v2 c1_i32_351
  let c32_i32_352 : BitVec 32 := 32#32
  let c0_i32_353 : BitVec 32 := 0#32
  let v550 : BitVec 1 := Scalar.cmpi .eq c32_i32_352 c0_i32_353
  let c1_i32_354 : BitVec 32 := 1#32
  let v551 : BitVec 32 := Scalar.select v550 c1_i32_354 c32_i32_352
  let v552 : BitVec 32 := Scalar.remsi v549 v551
  let c0_i32_356 : BitVec 32 := 0#32
  let v554 : BitVec 1 := Scalar.cmpi .slt v552 c0_i32_356
  let c0_i32_357 : BitVec 32 := 0#32
  let v555 : BitVec 1 := Scalar.cmpi .slt v551 c0_i32_357
  let v556 : BitVec 1 := Scalar.xori v554 v555
  let c0_i32_355 : BitVec 32 := 0#32
  let v553 : BitVec 1 := Scalar.cmpi .ne v552 c0_i32_355
  let v557 : BitVec 1 := Scalar.andi v556 v553
  let v558 : BitVec 32 := Scalar.addi v552 v551
  let v559 : BitVec 32 := Scalar.select v557 v558 v552
  let c0_i32_361 : BitVec 32 := 0#32
  let c0_i32_362 : BitVec 32 := 0#32
  ![v559.toNat, 0, 0]
def k0_dev32 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_351 : BitVec 32 := 1#32
  let v549 : BitVec 32 := Scalar.addi v2 c1_i32_351
  let c32_i32_352 : BitVec 32 := 32#32
  let c0_i32_353 : BitVec 32 := 0#32
  let v550 : BitVec 1 := Scalar.cmpi .eq c32_i32_352 c0_i32_353
  let c1_i32_354 : BitVec 32 := 1#32
  let v551 : BitVec 32 := Scalar.select v550 c1_i32_354 c32_i32_352
  let v552 : BitVec 32 := Scalar.remsi v549 v551
  let c0_i32_356 : BitVec 32 := 0#32
  let v554 : BitVec 1 := Scalar.cmpi .slt v552 c0_i32_356
  let c0_i32_357 : BitVec 32 := 0#32
  let v555 : BitVec 1 := Scalar.cmpi .slt v551 c0_i32_357
  let v556 : BitVec 1 := Scalar.xori v554 v555
  let c0_i32_355 : BitVec 32 := 0#32
  let v553 : BitVec 1 := Scalar.cmpi .ne v552 c0_i32_355
  let v557 : BitVec 1 := Scalar.andi v556 v553
  let v558 : BitVec 32 := Scalar.addi v552 v551
  let v559 : BitVec 32 := Scalar.select v557 v558 v552
  let c1_i32_358 : BitVec 32 := 1#32
  let v561 : BitVec 32 := Scalar.muli v559 c1_i32_358
  let v562 : BitVec 32 := Scalar.addi c0_i32_359 v561
  v562.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let c0_i32_366 : BitVec 32 := 0#32
  ![v2.toNat, 0, 0]
def k0_dev33 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_351 : BitVec 32 := 1#32
  let v549 : BitVec 32 := Scalar.addi v2 c1_i32_351
  let c32_i32_352 : BitVec 32 := 32#32
  let c0_i32_353 : BitVec 32 := 0#32
  let v550 : BitVec 1 := Scalar.cmpi .eq c32_i32_352 c0_i32_353
  let c1_i32_354 : BitVec 32 := 1#32
  let v551 : BitVec 32 := Scalar.select v550 c1_i32_354 c32_i32_352
  let v552 : BitVec 32 := Scalar.remsi v549 v551
  let c0_i32_356 : BitVec 32 := 0#32
  let v554 : BitVec 1 := Scalar.cmpi .slt v552 c0_i32_356
  let c0_i32_357 : BitVec 32 := 0#32
  let v555 : BitVec 1 := Scalar.cmpi .slt v551 c0_i32_357
  let v556 : BitVec 1 := Scalar.xori v554 v555
  let c0_i32_355 : BitVec 32 := 0#32
  let v553 : BitVec 1 := Scalar.cmpi .ne v552 c0_i32_355
  let v557 : BitVec 1 := Scalar.andi v556 v553
  let v558 : BitVec 32 := Scalar.addi v552 v551
  let v559 : BitVec 32 := Scalar.select v557 v558 v552
  let c1_i32_363 : BitVec 32 := 1#32
  let v570 : BitVec 32 := Scalar.muli v559 c1_i32_363
  let v571 : BitVec 32 := Scalar.addi c0_i32_364 v570
  v571.toNat
def k0_dev34 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_367 : BitVec 32 := 2#32
  let v578 : BitVec 32 := Scalar.addi v2 c2_i32_367
  let c32_i32_368 : BitVec 32 := 32#32
  let c0_i32_369 : BitVec 32 := 0#32
  let v579 : BitVec 1 := Scalar.cmpi .eq c32_i32_368 c0_i32_369
  let c1_i32_370 : BitVec 32 := 1#32
  let v580 : BitVec 32 := Scalar.select v579 c1_i32_370 c32_i32_368
  let v581 : BitVec 32 := Scalar.remsi v578 v580
  let c0_i32_372 : BitVec 32 := 0#32
  let v583 : BitVec 1 := Scalar.cmpi .slt v581 c0_i32_372
  let c0_i32_373 : BitVec 32 := 0#32
  let v584 : BitVec 1 := Scalar.cmpi .slt v580 c0_i32_373
  let v585 : BitVec 1 := Scalar.xori v583 v584
  let c0_i32_371 : BitVec 32 := 0#32
  let v582 : BitVec 1 := Scalar.cmpi .ne v581 c0_i32_371
  let v586 : BitVec 1 := Scalar.andi v585 v582
  let v587 : BitVec 32 := Scalar.addi v581 v580
  let v588 : BitVec 32 := Scalar.select v586 v587 v581
  let c1_i32_375 : BitVec 32 := 1#32
  let v590 : BitVec 32 := Scalar.muli v588 c1_i32_375
  let v591 : BitVec 32 := Scalar.addi c0_i32_376 v590
  v591.toNat
def k0_dev35 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_367 : BitVec 32 := 2#32
  let v578 : BitVec 32 := Scalar.addi v2 c2_i32_367
  let c32_i32_368 : BitVec 32 := 32#32
  let c0_i32_369 : BitVec 32 := 0#32
  let v579 : BitVec 1 := Scalar.cmpi .eq c32_i32_368 c0_i32_369
  let c1_i32_370 : BitVec 32 := 1#32
  let v580 : BitVec 32 := Scalar.select v579 c1_i32_370 c32_i32_368
  let v581 : BitVec 32 := Scalar.remsi v578 v580
  let c0_i32_372 : BitVec 32 := 0#32
  let v583 : BitVec 1 := Scalar.cmpi .slt v581 c0_i32_372
  let c0_i32_373 : BitVec 32 := 0#32
  let v584 : BitVec 1 := Scalar.cmpi .slt v580 c0_i32_373
  let v585 : BitVec 1 := Scalar.xori v583 v584
  let c0_i32_371 : BitVec 32 := 0#32
  let v582 : BitVec 1 := Scalar.cmpi .ne v581 c0_i32_371
  let v586 : BitVec 1 := Scalar.andi v585 v582
  let v587 : BitVec 32 := Scalar.addi v581 v580
  let v588 : BitVec 32 := Scalar.select v586 v587 v581
  let c1_i32_380 : BitVec 32 := 1#32
  let v599 : BitVec 32 := Scalar.muli v588 c1_i32_380
  let v600 : BitVec 32 := Scalar.addi c0_i32_381 v599
  v600.toNat
def k0_dev36 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_384 : BitVec 32 := 3#32
  let v607 : BitVec 32 := Scalar.addi v2 c3_i32_384
  let c32_i32_385 : BitVec 32 := 32#32
  let c0_i32_386 : BitVec 32 := 0#32
  let v608 : BitVec 1 := Scalar.cmpi .eq c32_i32_385 c0_i32_386
  let c1_i32_387 : BitVec 32 := 1#32
  let v609 : BitVec 32 := Scalar.select v608 c1_i32_387 c32_i32_385
  let v610 : BitVec 32 := Scalar.remsi v607 v609
  let c0_i32_389 : BitVec 32 := 0#32
  let v612 : BitVec 1 := Scalar.cmpi .slt v610 c0_i32_389
  let c0_i32_390 : BitVec 32 := 0#32
  let v613 : BitVec 1 := Scalar.cmpi .slt v609 c0_i32_390
  let v614 : BitVec 1 := Scalar.xori v612 v613
  let c0_i32_388 : BitVec 32 := 0#32
  let v611 : BitVec 1 := Scalar.cmpi .ne v610 c0_i32_388
  let v615 : BitVec 1 := Scalar.andi v614 v611
  let v616 : BitVec 32 := Scalar.addi v610 v609
  let v617 : BitVec 32 := Scalar.select v615 v616 v610
  let c1_i32_392 : BitVec 32 := 1#32
  let v619 : BitVec 32 := Scalar.muli v617 c1_i32_392
  let v620 : BitVec 32 := Scalar.addi c0_i32_393 v619
  v620.toNat
def k0_dev37 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_384 : BitVec 32 := 3#32
  let v607 : BitVec 32 := Scalar.addi v2 c3_i32_384
  let c32_i32_385 : BitVec 32 := 32#32
  let c0_i32_386 : BitVec 32 := 0#32
  let v608 : BitVec 1 := Scalar.cmpi .eq c32_i32_385 c0_i32_386
  let c1_i32_387 : BitVec 32 := 1#32
  let v609 : BitVec 32 := Scalar.select v608 c1_i32_387 c32_i32_385
  let v610 : BitVec 32 := Scalar.remsi v607 v609
  let c0_i32_389 : BitVec 32 := 0#32
  let v612 : BitVec 1 := Scalar.cmpi .slt v610 c0_i32_389
  let c0_i32_390 : BitVec 32 := 0#32
  let v613 : BitVec 1 := Scalar.cmpi .slt v609 c0_i32_390
  let v614 : BitVec 1 := Scalar.xori v612 v613
  let c0_i32_388 : BitVec 32 := 0#32
  let v611 : BitVec 1 := Scalar.cmpi .ne v610 c0_i32_388
  let v615 : BitVec 1 := Scalar.andi v614 v611
  let v616 : BitVec 32 := Scalar.addi v610 v609
  let v617 : BitVec 32 := Scalar.select v615 v616 v610
  let c1_i32_397 : BitVec 32 := 1#32
  let v628 : BitVec 32 := Scalar.muli v617 c1_i32_397
  let v629 : BitVec 32 := Scalar.addi c0_i32_398 v628
  v629.toNat
def k0_dev38 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_401 : BitVec 32 := 4#32
  let v636 : BitVec 32 := Scalar.addi v2 c4_i32_401
  let c32_i32_402 : BitVec 32 := 32#32
  let c0_i32_403 : BitVec 32 := 0#32
  let v637 : BitVec 1 := Scalar.cmpi .eq c32_i32_402 c0_i32_403
  let c1_i32_404 : BitVec 32 := 1#32
  let v638 : BitVec 32 := Scalar.select v637 c1_i32_404 c32_i32_402
  let v639 : BitVec 32 := Scalar.remsi v636 v638
  let c0_i32_406 : BitVec 32 := 0#32
  let v641 : BitVec 1 := Scalar.cmpi .slt v639 c0_i32_406
  let c0_i32_407 : BitVec 32 := 0#32
  let v642 : BitVec 1 := Scalar.cmpi .slt v638 c0_i32_407
  let v643 : BitVec 1 := Scalar.xori v641 v642
  let c0_i32_405 : BitVec 32 := 0#32
  let v640 : BitVec 1 := Scalar.cmpi .ne v639 c0_i32_405
  let v644 : BitVec 1 := Scalar.andi v643 v640
  let v645 : BitVec 32 := Scalar.addi v639 v638
  let v646 : BitVec 32 := Scalar.select v644 v645 v639
  let c1_i32_409 : BitVec 32 := 1#32
  let v648 : BitVec 32 := Scalar.muli v646 c1_i32_409
  let v649 : BitVec 32 := Scalar.addi c0_i32_410 v648
  v649.toNat
def k0_dev39 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_401 : BitVec 32 := 4#32
  let v636 : BitVec 32 := Scalar.addi v2 c4_i32_401
  let c32_i32_402 : BitVec 32 := 32#32
  let c0_i32_403 : BitVec 32 := 0#32
  let v637 : BitVec 1 := Scalar.cmpi .eq c32_i32_402 c0_i32_403
  let c1_i32_404 : BitVec 32 := 1#32
  let v638 : BitVec 32 := Scalar.select v637 c1_i32_404 c32_i32_402
  let v639 : BitVec 32 := Scalar.remsi v636 v638
  let c0_i32_406 : BitVec 32 := 0#32
  let v641 : BitVec 1 := Scalar.cmpi .slt v639 c0_i32_406
  let c0_i32_407 : BitVec 32 := 0#32
  let v642 : BitVec 1 := Scalar.cmpi .slt v638 c0_i32_407
  let v643 : BitVec 1 := Scalar.xori v641 v642
  let c0_i32_405 : BitVec 32 := 0#32
  let v640 : BitVec 1 := Scalar.cmpi .ne v639 c0_i32_405
  let v644 : BitVec 1 := Scalar.andi v643 v640
  let v645 : BitVec 32 := Scalar.addi v639 v638
  let v646 : BitVec 32 := Scalar.select v644 v645 v639
  let c1_i32_414 : BitVec 32 := 1#32
  let v657 : BitVec 32 := Scalar.muli v646 c1_i32_414
  let v658 : BitVec 32 := Scalar.addi c0_i32_415 v657
  v658.toNat
def k0_dev40 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_418 : BitVec 32 := 5#32
  let v665 : BitVec 32 := Scalar.addi v2 c5_i32_418
  let c32_i32_419 : BitVec 32 := 32#32
  let c0_i32_420 : BitVec 32 := 0#32
  let v666 : BitVec 1 := Scalar.cmpi .eq c32_i32_419 c0_i32_420
  let c1_i32_421 : BitVec 32 := 1#32
  let v667 : BitVec 32 := Scalar.select v666 c1_i32_421 c32_i32_419
  let v668 : BitVec 32 := Scalar.remsi v665 v667
  let c0_i32_423 : BitVec 32 := 0#32
  let v670 : BitVec 1 := Scalar.cmpi .slt v668 c0_i32_423
  let c0_i32_424 : BitVec 32 := 0#32
  let v671 : BitVec 1 := Scalar.cmpi .slt v667 c0_i32_424
  let v672 : BitVec 1 := Scalar.xori v670 v671
  let c0_i32_422 : BitVec 32 := 0#32
  let v669 : BitVec 1 := Scalar.cmpi .ne v668 c0_i32_422
  let v673 : BitVec 1 := Scalar.andi v672 v669
  let v674 : BitVec 32 := Scalar.addi v668 v667
  let v675 : BitVec 32 := Scalar.select v673 v674 v668
  let c1_i32_426 : BitVec 32 := 1#32
  let v677 : BitVec 32 := Scalar.muli v675 c1_i32_426
  let v678 : BitVec 32 := Scalar.addi c0_i32_427 v677
  v678.toNat
def k0_dev41 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_418 : BitVec 32 := 5#32
  let v665 : BitVec 32 := Scalar.addi v2 c5_i32_418
  let c32_i32_419 : BitVec 32 := 32#32
  let c0_i32_420 : BitVec 32 := 0#32
  let v666 : BitVec 1 := Scalar.cmpi .eq c32_i32_419 c0_i32_420
  let c1_i32_421 : BitVec 32 := 1#32
  let v667 : BitVec 32 := Scalar.select v666 c1_i32_421 c32_i32_419
  let v668 : BitVec 32 := Scalar.remsi v665 v667
  let c0_i32_423 : BitVec 32 := 0#32
  let v670 : BitVec 1 := Scalar.cmpi .slt v668 c0_i32_423
  let c0_i32_424 : BitVec 32 := 0#32
  let v671 : BitVec 1 := Scalar.cmpi .slt v667 c0_i32_424
  let v672 : BitVec 1 := Scalar.xori v670 v671
  let c0_i32_422 : BitVec 32 := 0#32
  let v669 : BitVec 1 := Scalar.cmpi .ne v668 c0_i32_422
  let v673 : BitVec 1 := Scalar.andi v672 v669
  let v674 : BitVec 32 := Scalar.addi v668 v667
  let v675 : BitVec 32 := Scalar.select v673 v674 v668
  let c1_i32_431 : BitVec 32 := 1#32
  let v686 : BitVec 32 := Scalar.muli v675 c1_i32_431
  let v687 : BitVec 32 := Scalar.addi c0_i32_432 v686
  v687.toNat
def k0_dev42 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_435 : BitVec 32 := 6#32
  let v694 : BitVec 32 := Scalar.addi v2 c6_i32_435
  let c32_i32_436 : BitVec 32 := 32#32
  let c0_i32_437 : BitVec 32 := 0#32
  let v695 : BitVec 1 := Scalar.cmpi .eq c32_i32_436 c0_i32_437
  let c1_i32_438 : BitVec 32 := 1#32
  let v696 : BitVec 32 := Scalar.select v695 c1_i32_438 c32_i32_436
  let v697 : BitVec 32 := Scalar.remsi v694 v696
  let c0_i32_440 : BitVec 32 := 0#32
  let v699 : BitVec 1 := Scalar.cmpi .slt v697 c0_i32_440
  let c0_i32_441 : BitVec 32 := 0#32
  let v700 : BitVec 1 := Scalar.cmpi .slt v696 c0_i32_441
  let v701 : BitVec 1 := Scalar.xori v699 v700
  let c0_i32_439 : BitVec 32 := 0#32
  let v698 : BitVec 1 := Scalar.cmpi .ne v697 c0_i32_439
  let v702 : BitVec 1 := Scalar.andi v701 v698
  let v703 : BitVec 32 := Scalar.addi v697 v696
  let v704 : BitVec 32 := Scalar.select v702 v703 v697
  let c1_i32_443 : BitVec 32 := 1#32
  let v706 : BitVec 32 := Scalar.muli v704 c1_i32_443
  let v707 : BitVec 32 := Scalar.addi c0_i32_444 v706
  v707.toNat
def k0_dev43 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_435 : BitVec 32 := 6#32
  let v694 : BitVec 32 := Scalar.addi v2 c6_i32_435
  let c32_i32_436 : BitVec 32 := 32#32
  let c0_i32_437 : BitVec 32 := 0#32
  let v695 : BitVec 1 := Scalar.cmpi .eq c32_i32_436 c0_i32_437
  let c1_i32_438 : BitVec 32 := 1#32
  let v696 : BitVec 32 := Scalar.select v695 c1_i32_438 c32_i32_436
  let v697 : BitVec 32 := Scalar.remsi v694 v696
  let c0_i32_440 : BitVec 32 := 0#32
  let v699 : BitVec 1 := Scalar.cmpi .slt v697 c0_i32_440
  let c0_i32_441 : BitVec 32 := 0#32
  let v700 : BitVec 1 := Scalar.cmpi .slt v696 c0_i32_441
  let v701 : BitVec 1 := Scalar.xori v699 v700
  let c0_i32_439 : BitVec 32 := 0#32
  let v698 : BitVec 1 := Scalar.cmpi .ne v697 c0_i32_439
  let v702 : BitVec 1 := Scalar.andi v701 v698
  let v703 : BitVec 32 := Scalar.addi v697 v696
  let v704 : BitVec 32 := Scalar.select v702 v703 v697
  let c1_i32_448 : BitVec 32 := 1#32
  let v715 : BitVec 32 := Scalar.muli v704 c1_i32_448
  let v716 : BitVec 32 := Scalar.addi c0_i32_449 v715
  v716.toNat
def k0_dev44 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_452 : BitVec 32 := 7#32
  let v723 : BitVec 32 := Scalar.addi v2 c7_i32_452
  let c32_i32_453 : BitVec 32 := 32#32
  let c0_i32_454 : BitVec 32 := 0#32
  let v724 : BitVec 1 := Scalar.cmpi .eq c32_i32_453 c0_i32_454
  let c1_i32_455 : BitVec 32 := 1#32
  let v725 : BitVec 32 := Scalar.select v724 c1_i32_455 c32_i32_453
  let v726 : BitVec 32 := Scalar.remsi v723 v725
  let c0_i32_457 : BitVec 32 := 0#32
  let v728 : BitVec 1 := Scalar.cmpi .slt v726 c0_i32_457
  let c0_i32_458 : BitVec 32 := 0#32
  let v729 : BitVec 1 := Scalar.cmpi .slt v725 c0_i32_458
  let v730 : BitVec 1 := Scalar.xori v728 v729
  let c0_i32_456 : BitVec 32 := 0#32
  let v727 : BitVec 1 := Scalar.cmpi .ne v726 c0_i32_456
  let v731 : BitVec 1 := Scalar.andi v730 v727
  let v732 : BitVec 32 := Scalar.addi v726 v725
  let v733 : BitVec 32 := Scalar.select v731 v732 v726
  let c1_i32_460 : BitVec 32 := 1#32
  let v735 : BitVec 32 := Scalar.muli v733 c1_i32_460
  let v736 : BitVec 32 := Scalar.addi c0_i32_461 v735
  v736.toNat
def k0_dev45 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_452 : BitVec 32 := 7#32
  let v723 : BitVec 32 := Scalar.addi v2 c7_i32_452
  let c32_i32_453 : BitVec 32 := 32#32
  let c0_i32_454 : BitVec 32 := 0#32
  let v724 : BitVec 1 := Scalar.cmpi .eq c32_i32_453 c0_i32_454
  let c1_i32_455 : BitVec 32 := 1#32
  let v725 : BitVec 32 := Scalar.select v724 c1_i32_455 c32_i32_453
  let v726 : BitVec 32 := Scalar.remsi v723 v725
  let c0_i32_457 : BitVec 32 := 0#32
  let v728 : BitVec 1 := Scalar.cmpi .slt v726 c0_i32_457
  let c0_i32_458 : BitVec 32 := 0#32
  let v729 : BitVec 1 := Scalar.cmpi .slt v725 c0_i32_458
  let v730 : BitVec 1 := Scalar.xori v728 v729
  let c0_i32_456 : BitVec 32 := 0#32
  let v727 : BitVec 1 := Scalar.cmpi .ne v726 c0_i32_456
  let v731 : BitVec 1 := Scalar.andi v730 v727
  let v732 : BitVec 32 := Scalar.addi v726 v725
  let v733 : BitVec 32 := Scalar.select v731 v732 v726
  let c1_i32_465 : BitVec 32 := 1#32
  let v744 : BitVec 32 := Scalar.muli v733 c1_i32_465
  let v745 : BitVec 32 := Scalar.addi c0_i32_466 v744
  v745.toNat
def k0_dev46 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_469 : BitVec 32 := 8#32
  let v752 : BitVec 32 := Scalar.addi v2 c8_i32_469
  let c32_i32_470 : BitVec 32 := 32#32
  let c0_i32_471 : BitVec 32 := 0#32
  let v753 : BitVec 1 := Scalar.cmpi .eq c32_i32_470 c0_i32_471
  let c1_i32_472 : BitVec 32 := 1#32
  let v754 : BitVec 32 := Scalar.select v753 c1_i32_472 c32_i32_470
  let v755 : BitVec 32 := Scalar.remsi v752 v754
  let c0_i32_474 : BitVec 32 := 0#32
  let v757 : BitVec 1 := Scalar.cmpi .slt v755 c0_i32_474
  let c0_i32_475 : BitVec 32 := 0#32
  let v758 : BitVec 1 := Scalar.cmpi .slt v754 c0_i32_475
  let v759 : BitVec 1 := Scalar.xori v757 v758
  let c0_i32_473 : BitVec 32 := 0#32
  let v756 : BitVec 1 := Scalar.cmpi .ne v755 c0_i32_473
  let v760 : BitVec 1 := Scalar.andi v759 v756
  let v761 : BitVec 32 := Scalar.addi v755 v754
  let v762 : BitVec 32 := Scalar.select v760 v761 v755
  let c1_i32_477 : BitVec 32 := 1#32
  let v764 : BitVec 32 := Scalar.muli v762 c1_i32_477
  let v765 : BitVec 32 := Scalar.addi c0_i32_478 v764
  v765.toNat
def k0_dev47 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_469 : BitVec 32 := 8#32
  let v752 : BitVec 32 := Scalar.addi v2 c8_i32_469
  let c32_i32_470 : BitVec 32 := 32#32
  let c0_i32_471 : BitVec 32 := 0#32
  let v753 : BitVec 1 := Scalar.cmpi .eq c32_i32_470 c0_i32_471
  let c1_i32_472 : BitVec 32 := 1#32
  let v754 : BitVec 32 := Scalar.select v753 c1_i32_472 c32_i32_470
  let v755 : BitVec 32 := Scalar.remsi v752 v754
  let c0_i32_474 : BitVec 32 := 0#32
  let v757 : BitVec 1 := Scalar.cmpi .slt v755 c0_i32_474
  let c0_i32_475 : BitVec 32 := 0#32
  let v758 : BitVec 1 := Scalar.cmpi .slt v754 c0_i32_475
  let v759 : BitVec 1 := Scalar.xori v757 v758
  let c0_i32_473 : BitVec 32 := 0#32
  let v756 : BitVec 1 := Scalar.cmpi .ne v755 c0_i32_473
  let v760 : BitVec 1 := Scalar.andi v759 v756
  let v761 : BitVec 32 := Scalar.addi v755 v754
  let v762 : BitVec 32 := Scalar.select v760 v761 v755
  let c1_i32_482 : BitVec 32 := 1#32
  let v773 : BitVec 32 := Scalar.muli v762 c1_i32_482
  let v774 : BitVec 32 := Scalar.addi c0_i32_483 v773
  v774.toNat
def k0_dev48 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_486 : BitVec 32 := 9#32
  let v781 : BitVec 32 := Scalar.addi v2 c9_i32_486
  let c32_i32_487 : BitVec 32 := 32#32
  let c0_i32_488 : BitVec 32 := 0#32
  let v782 : BitVec 1 := Scalar.cmpi .eq c32_i32_487 c0_i32_488
  let c1_i32_489 : BitVec 32 := 1#32
  let v783 : BitVec 32 := Scalar.select v782 c1_i32_489 c32_i32_487
  let v784 : BitVec 32 := Scalar.remsi v781 v783
  let c0_i32_491 : BitVec 32 := 0#32
  let v786 : BitVec 1 := Scalar.cmpi .slt v784 c0_i32_491
  let c0_i32_492 : BitVec 32 := 0#32
  let v787 : BitVec 1 := Scalar.cmpi .slt v783 c0_i32_492
  let v788 : BitVec 1 := Scalar.xori v786 v787
  let c0_i32_490 : BitVec 32 := 0#32
  let v785 : BitVec 1 := Scalar.cmpi .ne v784 c0_i32_490
  let v789 : BitVec 1 := Scalar.andi v788 v785
  let v790 : BitVec 32 := Scalar.addi v784 v783
  let v791 : BitVec 32 := Scalar.select v789 v790 v784
  let c1_i32_494 : BitVec 32 := 1#32
  let v793 : BitVec 32 := Scalar.muli v791 c1_i32_494
  let v794 : BitVec 32 := Scalar.addi c0_i32_495 v793
  v794.toNat
def k0_dev49 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_486 : BitVec 32 := 9#32
  let v781 : BitVec 32 := Scalar.addi v2 c9_i32_486
  let c32_i32_487 : BitVec 32 := 32#32
  let c0_i32_488 : BitVec 32 := 0#32
  let v782 : BitVec 1 := Scalar.cmpi .eq c32_i32_487 c0_i32_488
  let c1_i32_489 : BitVec 32 := 1#32
  let v783 : BitVec 32 := Scalar.select v782 c1_i32_489 c32_i32_487
  let v784 : BitVec 32 := Scalar.remsi v781 v783
  let c0_i32_491 : BitVec 32 := 0#32
  let v786 : BitVec 1 := Scalar.cmpi .slt v784 c0_i32_491
  let c0_i32_492 : BitVec 32 := 0#32
  let v787 : BitVec 1 := Scalar.cmpi .slt v783 c0_i32_492
  let v788 : BitVec 1 := Scalar.xori v786 v787
  let c0_i32_490 : BitVec 32 := 0#32
  let v785 : BitVec 1 := Scalar.cmpi .ne v784 c0_i32_490
  let v789 : BitVec 1 := Scalar.andi v788 v785
  let v790 : BitVec 32 := Scalar.addi v784 v783
  let v791 : BitVec 32 := Scalar.select v789 v790 v784
  let c1_i32_499 : BitVec 32 := 1#32
  let v802 : BitVec 32 := Scalar.muli v791 c1_i32_499
  let v803 : BitVec 32 := Scalar.addi c0_i32_500 v802
  v803.toNat
def k0_dev50 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_503 : BitVec 32 := 10#32
  let v810 : BitVec 32 := Scalar.addi v2 c10_i32_503
  let c32_i32_504 : BitVec 32 := 32#32
  let c0_i32_505 : BitVec 32 := 0#32
  let v811 : BitVec 1 := Scalar.cmpi .eq c32_i32_504 c0_i32_505
  let c1_i32_506 : BitVec 32 := 1#32
  let v812 : BitVec 32 := Scalar.select v811 c1_i32_506 c32_i32_504
  let v813 : BitVec 32 := Scalar.remsi v810 v812
  let c0_i32_508 : BitVec 32 := 0#32
  let v815 : BitVec 1 := Scalar.cmpi .slt v813 c0_i32_508
  let c0_i32_509 : BitVec 32 := 0#32
  let v816 : BitVec 1 := Scalar.cmpi .slt v812 c0_i32_509
  let v817 : BitVec 1 := Scalar.xori v815 v816
  let c0_i32_507 : BitVec 32 := 0#32
  let v814 : BitVec 1 := Scalar.cmpi .ne v813 c0_i32_507
  let v818 : BitVec 1 := Scalar.andi v817 v814
  let v819 : BitVec 32 := Scalar.addi v813 v812
  let v820 : BitVec 32 := Scalar.select v818 v819 v813
  let c1_i32_511 : BitVec 32 := 1#32
  let v822 : BitVec 32 := Scalar.muli v820 c1_i32_511
  let v823 : BitVec 32 := Scalar.addi c0_i32_512 v822
  v823.toNat
def k0_dev51 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_503 : BitVec 32 := 10#32
  let v810 : BitVec 32 := Scalar.addi v2 c10_i32_503
  let c32_i32_504 : BitVec 32 := 32#32
  let c0_i32_505 : BitVec 32 := 0#32
  let v811 : BitVec 1 := Scalar.cmpi .eq c32_i32_504 c0_i32_505
  let c1_i32_506 : BitVec 32 := 1#32
  let v812 : BitVec 32 := Scalar.select v811 c1_i32_506 c32_i32_504
  let v813 : BitVec 32 := Scalar.remsi v810 v812
  let c0_i32_508 : BitVec 32 := 0#32
  let v815 : BitVec 1 := Scalar.cmpi .slt v813 c0_i32_508
  let c0_i32_509 : BitVec 32 := 0#32
  let v816 : BitVec 1 := Scalar.cmpi .slt v812 c0_i32_509
  let v817 : BitVec 1 := Scalar.xori v815 v816
  let c0_i32_507 : BitVec 32 := 0#32
  let v814 : BitVec 1 := Scalar.cmpi .ne v813 c0_i32_507
  let v818 : BitVec 1 := Scalar.andi v817 v814
  let v819 : BitVec 32 := Scalar.addi v813 v812
  let v820 : BitVec 32 := Scalar.select v818 v819 v813
  let c1_i32_516 : BitVec 32 := 1#32
  let v831 : BitVec 32 := Scalar.muli v820 c1_i32_516
  let v832 : BitVec 32 := Scalar.addi c0_i32_517 v831
  v832.toNat
def k0_dev52 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_520 : BitVec 32 := 11#32
  let v839 : BitVec 32 := Scalar.addi v2 c11_i32_520
  let c32_i32_521 : BitVec 32 := 32#32
  let c0_i32_522 : BitVec 32 := 0#32
  let v840 : BitVec 1 := Scalar.cmpi .eq c32_i32_521 c0_i32_522
  let c1_i32_523 : BitVec 32 := 1#32
  let v841 : BitVec 32 := Scalar.select v840 c1_i32_523 c32_i32_521
  let v842 : BitVec 32 := Scalar.remsi v839 v841
  let c0_i32_525 : BitVec 32 := 0#32
  let v844 : BitVec 1 := Scalar.cmpi .slt v842 c0_i32_525
  let c0_i32_526 : BitVec 32 := 0#32
  let v845 : BitVec 1 := Scalar.cmpi .slt v841 c0_i32_526
  let v846 : BitVec 1 := Scalar.xori v844 v845
  let c0_i32_524 : BitVec 32 := 0#32
  let v843 : BitVec 1 := Scalar.cmpi .ne v842 c0_i32_524
  let v847 : BitVec 1 := Scalar.andi v846 v843
  let v848 : BitVec 32 := Scalar.addi v842 v841
  let v849 : BitVec 32 := Scalar.select v847 v848 v842
  let c1_i32_528 : BitVec 32 := 1#32
  let v851 : BitVec 32 := Scalar.muli v849 c1_i32_528
  let v852 : BitVec 32 := Scalar.addi c0_i32_529 v851
  v852.toNat
def k0_dev53 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_520 : BitVec 32 := 11#32
  let v839 : BitVec 32 := Scalar.addi v2 c11_i32_520
  let c32_i32_521 : BitVec 32 := 32#32
  let c0_i32_522 : BitVec 32 := 0#32
  let v840 : BitVec 1 := Scalar.cmpi .eq c32_i32_521 c0_i32_522
  let c1_i32_523 : BitVec 32 := 1#32
  let v841 : BitVec 32 := Scalar.select v840 c1_i32_523 c32_i32_521
  let v842 : BitVec 32 := Scalar.remsi v839 v841
  let c0_i32_525 : BitVec 32 := 0#32
  let v844 : BitVec 1 := Scalar.cmpi .slt v842 c0_i32_525
  let c0_i32_526 : BitVec 32 := 0#32
  let v845 : BitVec 1 := Scalar.cmpi .slt v841 c0_i32_526
  let v846 : BitVec 1 := Scalar.xori v844 v845
  let c0_i32_524 : BitVec 32 := 0#32
  let v843 : BitVec 1 := Scalar.cmpi .ne v842 c0_i32_524
  let v847 : BitVec 1 := Scalar.andi v846 v843
  let v848 : BitVec 32 := Scalar.addi v842 v841
  let v849 : BitVec 32 := Scalar.select v847 v848 v842
  let c1_i32_533 : BitVec 32 := 1#32
  let v860 : BitVec 32 := Scalar.muli v849 c1_i32_533
  let v861 : BitVec 32 := Scalar.addi c0_i32_534 v860
  v861.toNat
def k0_dev54 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_537 : BitVec 32 := 12#32
  let v868 : BitVec 32 := Scalar.addi v2 c12_i32_537
  let c32_i32_538 : BitVec 32 := 32#32
  let c0_i32_539 : BitVec 32 := 0#32
  let v869 : BitVec 1 := Scalar.cmpi .eq c32_i32_538 c0_i32_539
  let c1_i32_540 : BitVec 32 := 1#32
  let v870 : BitVec 32 := Scalar.select v869 c1_i32_540 c32_i32_538
  let v871 : BitVec 32 := Scalar.remsi v868 v870
  let c0_i32_542 : BitVec 32 := 0#32
  let v873 : BitVec 1 := Scalar.cmpi .slt v871 c0_i32_542
  let c0_i32_543 : BitVec 32 := 0#32
  let v874 : BitVec 1 := Scalar.cmpi .slt v870 c0_i32_543
  let v875 : BitVec 1 := Scalar.xori v873 v874
  let c0_i32_541 : BitVec 32 := 0#32
  let v872 : BitVec 1 := Scalar.cmpi .ne v871 c0_i32_541
  let v876 : BitVec 1 := Scalar.andi v875 v872
  let v877 : BitVec 32 := Scalar.addi v871 v870
  let v878 : BitVec 32 := Scalar.select v876 v877 v871
  let c1_i32_545 : BitVec 32 := 1#32
  let v880 : BitVec 32 := Scalar.muli v878 c1_i32_545
  let v881 : BitVec 32 := Scalar.addi c0_i32_546 v880
  v881.toNat
def k0_dev55 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_537 : BitVec 32 := 12#32
  let v868 : BitVec 32 := Scalar.addi v2 c12_i32_537
  let c32_i32_538 : BitVec 32 := 32#32
  let c0_i32_539 : BitVec 32 := 0#32
  let v869 : BitVec 1 := Scalar.cmpi .eq c32_i32_538 c0_i32_539
  let c1_i32_540 : BitVec 32 := 1#32
  let v870 : BitVec 32 := Scalar.select v869 c1_i32_540 c32_i32_538
  let v871 : BitVec 32 := Scalar.remsi v868 v870
  let c0_i32_542 : BitVec 32 := 0#32
  let v873 : BitVec 1 := Scalar.cmpi .slt v871 c0_i32_542
  let c0_i32_543 : BitVec 32 := 0#32
  let v874 : BitVec 1 := Scalar.cmpi .slt v870 c0_i32_543
  let v875 : BitVec 1 := Scalar.xori v873 v874
  let c0_i32_541 : BitVec 32 := 0#32
  let v872 : BitVec 1 := Scalar.cmpi .ne v871 c0_i32_541
  let v876 : BitVec 1 := Scalar.andi v875 v872
  let v877 : BitVec 32 := Scalar.addi v871 v870
  let v878 : BitVec 32 := Scalar.select v876 v877 v871
  let c1_i32_550 : BitVec 32 := 1#32
  let v889 : BitVec 32 := Scalar.muli v878 c1_i32_550
  let v890 : BitVec 32 := Scalar.addi c0_i32_551 v889
  v890.toNat
def k0_dev56 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_554 : BitVec 32 := 13#32
  let v897 : BitVec 32 := Scalar.addi v2 c13_i32_554
  let c32_i32_555 : BitVec 32 := 32#32
  let c0_i32_556 : BitVec 32 := 0#32
  let v898 : BitVec 1 := Scalar.cmpi .eq c32_i32_555 c0_i32_556
  let c1_i32_557 : BitVec 32 := 1#32
  let v899 : BitVec 32 := Scalar.select v898 c1_i32_557 c32_i32_555
  let v900 : BitVec 32 := Scalar.remsi v897 v899
  let c0_i32_559 : BitVec 32 := 0#32
  let v902 : BitVec 1 := Scalar.cmpi .slt v900 c0_i32_559
  let c0_i32_560 : BitVec 32 := 0#32
  let v903 : BitVec 1 := Scalar.cmpi .slt v899 c0_i32_560
  let v904 : BitVec 1 := Scalar.xori v902 v903
  let c0_i32_558 : BitVec 32 := 0#32
  let v901 : BitVec 1 := Scalar.cmpi .ne v900 c0_i32_558
  let v905 : BitVec 1 := Scalar.andi v904 v901
  let v906 : BitVec 32 := Scalar.addi v900 v899
  let v907 : BitVec 32 := Scalar.select v905 v906 v900
  let c1_i32_562 : BitVec 32 := 1#32
  let v909 : BitVec 32 := Scalar.muli v907 c1_i32_562
  let v910 : BitVec 32 := Scalar.addi c0_i32_563 v909
  v910.toNat
def k0_dev57 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_554 : BitVec 32 := 13#32
  let v897 : BitVec 32 := Scalar.addi v2 c13_i32_554
  let c32_i32_555 : BitVec 32 := 32#32
  let c0_i32_556 : BitVec 32 := 0#32
  let v898 : BitVec 1 := Scalar.cmpi .eq c32_i32_555 c0_i32_556
  let c1_i32_557 : BitVec 32 := 1#32
  let v899 : BitVec 32 := Scalar.select v898 c1_i32_557 c32_i32_555
  let v900 : BitVec 32 := Scalar.remsi v897 v899
  let c0_i32_559 : BitVec 32 := 0#32
  let v902 : BitVec 1 := Scalar.cmpi .slt v900 c0_i32_559
  let c0_i32_560 : BitVec 32 := 0#32
  let v903 : BitVec 1 := Scalar.cmpi .slt v899 c0_i32_560
  let v904 : BitVec 1 := Scalar.xori v902 v903
  let c0_i32_558 : BitVec 32 := 0#32
  let v901 : BitVec 1 := Scalar.cmpi .ne v900 c0_i32_558
  let v905 : BitVec 1 := Scalar.andi v904 v901
  let v906 : BitVec 32 := Scalar.addi v900 v899
  let v907 : BitVec 32 := Scalar.select v905 v906 v900
  let c1_i32_567 : BitVec 32 := 1#32
  let v918 : BitVec 32 := Scalar.muli v907 c1_i32_567
  let v919 : BitVec 32 := Scalar.addi c0_i32_568 v918
  v919.toNat
def k0_dev58 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_571 : BitVec 32 := 14#32
  let v926 : BitVec 32 := Scalar.addi v2 c14_i32_571
  let c32_i32_572 : BitVec 32 := 32#32
  let c0_i32_573 : BitVec 32 := 0#32
  let v927 : BitVec 1 := Scalar.cmpi .eq c32_i32_572 c0_i32_573
  let c1_i32_574 : BitVec 32 := 1#32
  let v928 : BitVec 32 := Scalar.select v927 c1_i32_574 c32_i32_572
  let v929 : BitVec 32 := Scalar.remsi v926 v928
  let c0_i32_576 : BitVec 32 := 0#32
  let v931 : BitVec 1 := Scalar.cmpi .slt v929 c0_i32_576
  let c0_i32_577 : BitVec 32 := 0#32
  let v932 : BitVec 1 := Scalar.cmpi .slt v928 c0_i32_577
  let v933 : BitVec 1 := Scalar.xori v931 v932
  let c0_i32_575 : BitVec 32 := 0#32
  let v930 : BitVec 1 := Scalar.cmpi .ne v929 c0_i32_575
  let v934 : BitVec 1 := Scalar.andi v933 v930
  let v935 : BitVec 32 := Scalar.addi v929 v928
  let v936 : BitVec 32 := Scalar.select v934 v935 v929
  let c1_i32_579 : BitVec 32 := 1#32
  let v938 : BitVec 32 := Scalar.muli v936 c1_i32_579
  let v939 : BitVec 32 := Scalar.addi c0_i32_580 v938
  v939.toNat
def k0_dev59 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_571 : BitVec 32 := 14#32
  let v926 : BitVec 32 := Scalar.addi v2 c14_i32_571
  let c32_i32_572 : BitVec 32 := 32#32
  let c0_i32_573 : BitVec 32 := 0#32
  let v927 : BitVec 1 := Scalar.cmpi .eq c32_i32_572 c0_i32_573
  let c1_i32_574 : BitVec 32 := 1#32
  let v928 : BitVec 32 := Scalar.select v927 c1_i32_574 c32_i32_572
  let v929 : BitVec 32 := Scalar.remsi v926 v928
  let c0_i32_576 : BitVec 32 := 0#32
  let v931 : BitVec 1 := Scalar.cmpi .slt v929 c0_i32_576
  let c0_i32_577 : BitVec 32 := 0#32
  let v932 : BitVec 1 := Scalar.cmpi .slt v928 c0_i32_577
  let v933 : BitVec 1 := Scalar.xori v931 v932
  let c0_i32_575 : BitVec 32 := 0#32
  let v930 : BitVec 1 := Scalar.cmpi .ne v929 c0_i32_575
  let v934 : BitVec 1 := Scalar.andi v933 v930
  let v935 : BitVec 32 := Scalar.addi v929 v928
  let v936 : BitVec 32 := Scalar.select v934 v935 v929
  let c1_i32_584 : BitVec 32 := 1#32
  let v947 : BitVec 32 := Scalar.muli v936 c1_i32_584
  let v948 : BitVec 32 := Scalar.addi c0_i32_585 v947
  v948.toNat
def k0_dev60 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_588 : BitVec 32 := 15#32
  let v955 : BitVec 32 := Scalar.addi v2 c15_i32_588
  let c32_i32_589 : BitVec 32 := 32#32
  let c0_i32_590 : BitVec 32 := 0#32
  let v956 : BitVec 1 := Scalar.cmpi .eq c32_i32_589 c0_i32_590
  let c1_i32_591 : BitVec 32 := 1#32
  let v957 : BitVec 32 := Scalar.select v956 c1_i32_591 c32_i32_589
  let v958 : BitVec 32 := Scalar.remsi v955 v957
  let c0_i32_593 : BitVec 32 := 0#32
  let v960 : BitVec 1 := Scalar.cmpi .slt v958 c0_i32_593
  let c0_i32_594 : BitVec 32 := 0#32
  let v961 : BitVec 1 := Scalar.cmpi .slt v957 c0_i32_594
  let v962 : BitVec 1 := Scalar.xori v960 v961
  let c0_i32_592 : BitVec 32 := 0#32
  let v959 : BitVec 1 := Scalar.cmpi .ne v958 c0_i32_592
  let v963 : BitVec 1 := Scalar.andi v962 v959
  let v964 : BitVec 32 := Scalar.addi v958 v957
  let v965 : BitVec 32 := Scalar.select v963 v964 v958
  let c1_i32_596 : BitVec 32 := 1#32
  let v967 : BitVec 32 := Scalar.muli v965 c1_i32_596
  let v968 : BitVec 32 := Scalar.addi c0_i32_597 v967
  v968.toNat
def k0_dev61 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_588 : BitVec 32 := 15#32
  let v955 : BitVec 32 := Scalar.addi v2 c15_i32_588
  let c32_i32_589 : BitVec 32 := 32#32
  let c0_i32_590 : BitVec 32 := 0#32
  let v956 : BitVec 1 := Scalar.cmpi .eq c32_i32_589 c0_i32_590
  let c1_i32_591 : BitVec 32 := 1#32
  let v957 : BitVec 32 := Scalar.select v956 c1_i32_591 c32_i32_589
  let v958 : BitVec 32 := Scalar.remsi v955 v957
  let c0_i32_593 : BitVec 32 := 0#32
  let v960 : BitVec 1 := Scalar.cmpi .slt v958 c0_i32_593
  let c0_i32_594 : BitVec 32 := 0#32
  let v961 : BitVec 1 := Scalar.cmpi .slt v957 c0_i32_594
  let v962 : BitVec 1 := Scalar.xori v960 v961
  let c0_i32_592 : BitVec 32 := 0#32
  let v959 : BitVec 1 := Scalar.cmpi .ne v958 c0_i32_592
  let v963 : BitVec 1 := Scalar.andi v962 v959
  let v964 : BitVec 32 := Scalar.addi v958 v957
  let v965 : BitVec 32 := Scalar.select v963 v964 v958
  let c1_i32_601 : BitVec 32 := 1#32
  let v976 : BitVec 32 := Scalar.muli v965 c1_i32_601
  let v977 : BitVec 32 := Scalar.addi c0_i32_602 v976
  v977.toNat
def k0_dev62 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_605 : BitVec 32 := 16#32
  let v984 : BitVec 32 := Scalar.addi v2 c16_i32_605
  let c32_i32_606 : BitVec 32 := 32#32
  let c0_i32_607 : BitVec 32 := 0#32
  let v985 : BitVec 1 := Scalar.cmpi .eq c32_i32_606 c0_i32_607
  let c1_i32_608 : BitVec 32 := 1#32
  let v986 : BitVec 32 := Scalar.select v985 c1_i32_608 c32_i32_606
  let v987 : BitVec 32 := Scalar.remsi v984 v986
  let c0_i32_610 : BitVec 32 := 0#32
  let v989 : BitVec 1 := Scalar.cmpi .slt v987 c0_i32_610
  let c0_i32_611 : BitVec 32 := 0#32
  let v990 : BitVec 1 := Scalar.cmpi .slt v986 c0_i32_611
  let v991 : BitVec 1 := Scalar.xori v989 v990
  let c0_i32_609 : BitVec 32 := 0#32
  let v988 : BitVec 1 := Scalar.cmpi .ne v987 c0_i32_609
  let v992 : BitVec 1 := Scalar.andi v991 v988
  let v993 : BitVec 32 := Scalar.addi v987 v986
  let v994 : BitVec 32 := Scalar.select v992 v993 v987
  let c1_i32_613 : BitVec 32 := 1#32
  let v996 : BitVec 32 := Scalar.muli v994 c1_i32_613
  let v997 : BitVec 32 := Scalar.addi c0_i32_614 v996
  v997.toNat
def k0_dev63 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_605 : BitVec 32 := 16#32
  let v984 : BitVec 32 := Scalar.addi v2 c16_i32_605
  let c32_i32_606 : BitVec 32 := 32#32
  let c0_i32_607 : BitVec 32 := 0#32
  let v985 : BitVec 1 := Scalar.cmpi .eq c32_i32_606 c0_i32_607
  let c1_i32_608 : BitVec 32 := 1#32
  let v986 : BitVec 32 := Scalar.select v985 c1_i32_608 c32_i32_606
  let v987 : BitVec 32 := Scalar.remsi v984 v986
  let c0_i32_610 : BitVec 32 := 0#32
  let v989 : BitVec 1 := Scalar.cmpi .slt v987 c0_i32_610
  let c0_i32_611 : BitVec 32 := 0#32
  let v990 : BitVec 1 := Scalar.cmpi .slt v986 c0_i32_611
  let v991 : BitVec 1 := Scalar.xori v989 v990
  let c0_i32_609 : BitVec 32 := 0#32
  let v988 : BitVec 1 := Scalar.cmpi .ne v987 c0_i32_609
  let v992 : BitVec 1 := Scalar.andi v991 v988
  let v993 : BitVec 32 := Scalar.addi v987 v986
  let v994 : BitVec 32 := Scalar.select v992 v993 v987
  let c1_i32_618 : BitVec 32 := 1#32
  let v1005 : BitVec 32 := Scalar.muli v994 c1_i32_618
  let v1006 : BitVec 32 := Scalar.addi c0_i32_619 v1005
  v1006.toNat
def k0_dev64 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_622 : BitVec 32 := 17#32
  let v1013 : BitVec 32 := Scalar.addi v2 c17_i32_622
  let c32_i32_623 : BitVec 32 := 32#32
  let c0_i32_624 : BitVec 32 := 0#32
  let v1014 : BitVec 1 := Scalar.cmpi .eq c32_i32_623 c0_i32_624
  let c1_i32_625 : BitVec 32 := 1#32
  let v1015 : BitVec 32 := Scalar.select v1014 c1_i32_625 c32_i32_623
  let v1016 : BitVec 32 := Scalar.remsi v1013 v1015
  let c0_i32_627 : BitVec 32 := 0#32
  let v1018 : BitVec 1 := Scalar.cmpi .slt v1016 c0_i32_627
  let c0_i32_628 : BitVec 32 := 0#32
  let v1019 : BitVec 1 := Scalar.cmpi .slt v1015 c0_i32_628
  let v1020 : BitVec 1 := Scalar.xori v1018 v1019
  let c0_i32_626 : BitVec 32 := 0#32
  let v1017 : BitVec 1 := Scalar.cmpi .ne v1016 c0_i32_626
  let v1021 : BitVec 1 := Scalar.andi v1020 v1017
  let v1022 : BitVec 32 := Scalar.addi v1016 v1015
  let v1023 : BitVec 32 := Scalar.select v1021 v1022 v1016
  let c1_i32_630 : BitVec 32 := 1#32
  let v1025 : BitVec 32 := Scalar.muli v1023 c1_i32_630
  let v1026 : BitVec 32 := Scalar.addi c0_i32_631 v1025
  v1026.toNat
def k0_dev65 (d0 : Dev nD) : Nat :=
  let c0_i32_636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_622 : BitVec 32 := 17#32
  let v1013 : BitVec 32 := Scalar.addi v2 c17_i32_622
  let c32_i32_623 : BitVec 32 := 32#32
  let c0_i32_624 : BitVec 32 := 0#32
  let v1014 : BitVec 1 := Scalar.cmpi .eq c32_i32_623 c0_i32_624
  let c1_i32_625 : BitVec 32 := 1#32
  let v1015 : BitVec 32 := Scalar.select v1014 c1_i32_625 c32_i32_623
  let v1016 : BitVec 32 := Scalar.remsi v1013 v1015
  let c0_i32_627 : BitVec 32 := 0#32
  let v1018 : BitVec 1 := Scalar.cmpi .slt v1016 c0_i32_627
  let c0_i32_628 : BitVec 32 := 0#32
  let v1019 : BitVec 1 := Scalar.cmpi .slt v1015 c0_i32_628
  let v1020 : BitVec 1 := Scalar.xori v1018 v1019
  let c0_i32_626 : BitVec 32 := 0#32
  let v1017 : BitVec 1 := Scalar.cmpi .ne v1016 c0_i32_626
  let v1021 : BitVec 1 := Scalar.andi v1020 v1017
  let v1022 : BitVec 32 := Scalar.addi v1016 v1015
  let v1023 : BitVec 32 := Scalar.select v1021 v1022 v1016
  let c1_i32_635 : BitVec 32 := 1#32
  let v1034 : BitVec 32 := Scalar.muli v1023 c1_i32_635
  let v1035 : BitVec 32 := Scalar.addi c0_i32_636 v1034
  v1035.toNat
def k0_dev66 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_639 : BitVec 32 := 18#32
  let v1042 : BitVec 32 := Scalar.addi v2 c18_i32_639
  let c32_i32_640 : BitVec 32 := 32#32
  let c0_i32_641 : BitVec 32 := 0#32
  let v1043 : BitVec 1 := Scalar.cmpi .eq c32_i32_640 c0_i32_641
  let c1_i32_642 : BitVec 32 := 1#32
  let v1044 : BitVec 32 := Scalar.select v1043 c1_i32_642 c32_i32_640
  let v1045 : BitVec 32 := Scalar.remsi v1042 v1044
  let c0_i32_644 : BitVec 32 := 0#32
  let v1047 : BitVec 1 := Scalar.cmpi .slt v1045 c0_i32_644
  let c0_i32_645 : BitVec 32 := 0#32
  let v1048 : BitVec 1 := Scalar.cmpi .slt v1044 c0_i32_645
  let v1049 : BitVec 1 := Scalar.xori v1047 v1048
  let c0_i32_643 : BitVec 32 := 0#32
  let v1046 : BitVec 1 := Scalar.cmpi .ne v1045 c0_i32_643
  let v1050 : BitVec 1 := Scalar.andi v1049 v1046
  let v1051 : BitVec 32 := Scalar.addi v1045 v1044
  let v1052 : BitVec 32 := Scalar.select v1050 v1051 v1045
  let c1_i32_647 : BitVec 32 := 1#32
  let v1054 : BitVec 32 := Scalar.muli v1052 c1_i32_647
  let v1055 : BitVec 32 := Scalar.addi c0_i32_648 v1054
  v1055.toNat
def k0_dev67 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_639 : BitVec 32 := 18#32
  let v1042 : BitVec 32 := Scalar.addi v2 c18_i32_639
  let c32_i32_640 : BitVec 32 := 32#32
  let c0_i32_641 : BitVec 32 := 0#32
  let v1043 : BitVec 1 := Scalar.cmpi .eq c32_i32_640 c0_i32_641
  let c1_i32_642 : BitVec 32 := 1#32
  let v1044 : BitVec 32 := Scalar.select v1043 c1_i32_642 c32_i32_640
  let v1045 : BitVec 32 := Scalar.remsi v1042 v1044
  let c0_i32_644 : BitVec 32 := 0#32
  let v1047 : BitVec 1 := Scalar.cmpi .slt v1045 c0_i32_644
  let c0_i32_645 : BitVec 32 := 0#32
  let v1048 : BitVec 1 := Scalar.cmpi .slt v1044 c0_i32_645
  let v1049 : BitVec 1 := Scalar.xori v1047 v1048
  let c0_i32_643 : BitVec 32 := 0#32
  let v1046 : BitVec 1 := Scalar.cmpi .ne v1045 c0_i32_643
  let v1050 : BitVec 1 := Scalar.andi v1049 v1046
  let v1051 : BitVec 32 := Scalar.addi v1045 v1044
  let v1052 : BitVec 32 := Scalar.select v1050 v1051 v1045
  let c1_i32_652 : BitVec 32 := 1#32
  let v1063 : BitVec 32 := Scalar.muli v1052 c1_i32_652
  let v1064 : BitVec 32 := Scalar.addi c0_i32_653 v1063
  v1064.toNat
def k0_dev68 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_656 : BitVec 32 := 19#32
  let v1071 : BitVec 32 := Scalar.addi v2 c19_i32_656
  let c32_i32_657 : BitVec 32 := 32#32
  let c0_i32_658 : BitVec 32 := 0#32
  let v1072 : BitVec 1 := Scalar.cmpi .eq c32_i32_657 c0_i32_658
  let c1_i32_659 : BitVec 32 := 1#32
  let v1073 : BitVec 32 := Scalar.select v1072 c1_i32_659 c32_i32_657
  let v1074 : BitVec 32 := Scalar.remsi v1071 v1073
  let c0_i32_661 : BitVec 32 := 0#32
  let v1076 : BitVec 1 := Scalar.cmpi .slt v1074 c0_i32_661
  let c0_i32_662 : BitVec 32 := 0#32
  let v1077 : BitVec 1 := Scalar.cmpi .slt v1073 c0_i32_662
  let v1078 : BitVec 1 := Scalar.xori v1076 v1077
  let c0_i32_660 : BitVec 32 := 0#32
  let v1075 : BitVec 1 := Scalar.cmpi .ne v1074 c0_i32_660
  let v1079 : BitVec 1 := Scalar.andi v1078 v1075
  let v1080 : BitVec 32 := Scalar.addi v1074 v1073
  let v1081 : BitVec 32 := Scalar.select v1079 v1080 v1074
  let c1_i32_664 : BitVec 32 := 1#32
  let v1083 : BitVec 32 := Scalar.muli v1081 c1_i32_664
  let v1084 : BitVec 32 := Scalar.addi c0_i32_665 v1083
  v1084.toNat
def k0_dev69 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_656 : BitVec 32 := 19#32
  let v1071 : BitVec 32 := Scalar.addi v2 c19_i32_656
  let c32_i32_657 : BitVec 32 := 32#32
  let c0_i32_658 : BitVec 32 := 0#32
  let v1072 : BitVec 1 := Scalar.cmpi .eq c32_i32_657 c0_i32_658
  let c1_i32_659 : BitVec 32 := 1#32
  let v1073 : BitVec 32 := Scalar.select v1072 c1_i32_659 c32_i32_657
  let v1074 : BitVec 32 := Scalar.remsi v1071 v1073
  let c0_i32_661 : BitVec 32 := 0#32
  let v1076 : BitVec 1 := Scalar.cmpi .slt v1074 c0_i32_661
  let c0_i32_662 : BitVec 32 := 0#32
  let v1077 : BitVec 1 := Scalar.cmpi .slt v1073 c0_i32_662
  let v1078 : BitVec 1 := Scalar.xori v1076 v1077
  let c0_i32_660 : BitVec 32 := 0#32
  let v1075 : BitVec 1 := Scalar.cmpi .ne v1074 c0_i32_660
  let v1079 : BitVec 1 := Scalar.andi v1078 v1075
  let v1080 : BitVec 32 := Scalar.addi v1074 v1073
  let v1081 : BitVec 32 := Scalar.select v1079 v1080 v1074
  let c1_i32_669 : BitVec 32 := 1#32
  let v1092 : BitVec 32 := Scalar.muli v1081 c1_i32_669
  let v1093 : BitVec 32 := Scalar.addi c0_i32_670 v1092
  v1093.toNat
def k0_dev70 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_673 : BitVec 32 := 20#32
  let v1100 : BitVec 32 := Scalar.addi v2 c20_i32_673
  let c32_i32_674 : BitVec 32 := 32#32
  let c0_i32_675 : BitVec 32 := 0#32
  let v1101 : BitVec 1 := Scalar.cmpi .eq c32_i32_674 c0_i32_675
  let c1_i32_676 : BitVec 32 := 1#32
  let v1102 : BitVec 32 := Scalar.select v1101 c1_i32_676 c32_i32_674
  let v1103 : BitVec 32 := Scalar.remsi v1100 v1102
  let c0_i32_678 : BitVec 32 := 0#32
  let v1105 : BitVec 1 := Scalar.cmpi .slt v1103 c0_i32_678
  let c0_i32_679 : BitVec 32 := 0#32
  let v1106 : BitVec 1 := Scalar.cmpi .slt v1102 c0_i32_679
  let v1107 : BitVec 1 := Scalar.xori v1105 v1106
  let c0_i32_677 : BitVec 32 := 0#32
  let v1104 : BitVec 1 := Scalar.cmpi .ne v1103 c0_i32_677
  let v1108 : BitVec 1 := Scalar.andi v1107 v1104
  let v1109 : BitVec 32 := Scalar.addi v1103 v1102
  let v1110 : BitVec 32 := Scalar.select v1108 v1109 v1103
  let c1_i32_681 : BitVec 32 := 1#32
  let v1112 : BitVec 32 := Scalar.muli v1110 c1_i32_681
  let v1113 : BitVec 32 := Scalar.addi c0_i32_682 v1112
  v1113.toNat
def k0_dev71 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_673 : BitVec 32 := 20#32
  let v1100 : BitVec 32 := Scalar.addi v2 c20_i32_673
  let c32_i32_674 : BitVec 32 := 32#32
  let c0_i32_675 : BitVec 32 := 0#32
  let v1101 : BitVec 1 := Scalar.cmpi .eq c32_i32_674 c0_i32_675
  let c1_i32_676 : BitVec 32 := 1#32
  let v1102 : BitVec 32 := Scalar.select v1101 c1_i32_676 c32_i32_674
  let v1103 : BitVec 32 := Scalar.remsi v1100 v1102
  let c0_i32_678 : BitVec 32 := 0#32
  let v1105 : BitVec 1 := Scalar.cmpi .slt v1103 c0_i32_678
  let c0_i32_679 : BitVec 32 := 0#32
  let v1106 : BitVec 1 := Scalar.cmpi .slt v1102 c0_i32_679
  let v1107 : BitVec 1 := Scalar.xori v1105 v1106
  let c0_i32_677 : BitVec 32 := 0#32
  let v1104 : BitVec 1 := Scalar.cmpi .ne v1103 c0_i32_677
  let v1108 : BitVec 1 := Scalar.andi v1107 v1104
  let v1109 : BitVec 32 := Scalar.addi v1103 v1102
  let v1110 : BitVec 32 := Scalar.select v1108 v1109 v1103
  let c1_i32_686 : BitVec 32 := 1#32
  let v1121 : BitVec 32 := Scalar.muli v1110 c1_i32_686
  let v1122 : BitVec 32 := Scalar.addi c0_i32_687 v1121
  v1122.toNat
def k0_dev72 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_690 : BitVec 32 := 21#32
  let v1129 : BitVec 32 := Scalar.addi v2 c21_i32_690
  let c32_i32_691 : BitVec 32 := 32#32
  let c0_i32_692 : BitVec 32 := 0#32
  let v1130 : BitVec 1 := Scalar.cmpi .eq c32_i32_691 c0_i32_692
  let c1_i32_693 : BitVec 32 := 1#32
  let v1131 : BitVec 32 := Scalar.select v1130 c1_i32_693 c32_i32_691
  let v1132 : BitVec 32 := Scalar.remsi v1129 v1131
  let c0_i32_695 : BitVec 32 := 0#32
  let v1134 : BitVec 1 := Scalar.cmpi .slt v1132 c0_i32_695
  let c0_i32_696 : BitVec 32 := 0#32
  let v1135 : BitVec 1 := Scalar.cmpi .slt v1131 c0_i32_696
  let v1136 : BitVec 1 := Scalar.xori v1134 v1135
  let c0_i32_694 : BitVec 32 := 0#32
  let v1133 : BitVec 1 := Scalar.cmpi .ne v1132 c0_i32_694
  let v1137 : BitVec 1 := Scalar.andi v1136 v1133
  let v1138 : BitVec 32 := Scalar.addi v1132 v1131
  let v1139 : BitVec 32 := Scalar.select v1137 v1138 v1132
  let c1_i32_698 : BitVec 32 := 1#32
  let v1141 : BitVec 32 := Scalar.muli v1139 c1_i32_698
  let v1142 : BitVec 32 := Scalar.addi c0_i32_699 v1141
  v1142.toNat
def k0_dev73 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_690 : BitVec 32 := 21#32
  let v1129 : BitVec 32 := Scalar.addi v2 c21_i32_690
  let c32_i32_691 : BitVec 32 := 32#32
  let c0_i32_692 : BitVec 32 := 0#32
  let v1130 : BitVec 1 := Scalar.cmpi .eq c32_i32_691 c0_i32_692
  let c1_i32_693 : BitVec 32 := 1#32
  let v1131 : BitVec 32 := Scalar.select v1130 c1_i32_693 c32_i32_691
  let v1132 : BitVec 32 := Scalar.remsi v1129 v1131
  let c0_i32_695 : BitVec 32 := 0#32
  let v1134 : BitVec 1 := Scalar.cmpi .slt v1132 c0_i32_695
  let c0_i32_696 : BitVec 32 := 0#32
  let v1135 : BitVec 1 := Scalar.cmpi .slt v1131 c0_i32_696
  let v1136 : BitVec 1 := Scalar.xori v1134 v1135
  let c0_i32_694 : BitVec 32 := 0#32
  let v1133 : BitVec 1 := Scalar.cmpi .ne v1132 c0_i32_694
  let v1137 : BitVec 1 := Scalar.andi v1136 v1133
  let v1138 : BitVec 32 := Scalar.addi v1132 v1131
  let v1139 : BitVec 32 := Scalar.select v1137 v1138 v1132
  let c1_i32_703 : BitVec 32 := 1#32
  let v1150 : BitVec 32 := Scalar.muli v1139 c1_i32_703
  let v1151 : BitVec 32 := Scalar.addi c0_i32_704 v1150
  v1151.toNat
def k0_dev74 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_707 : BitVec 32 := 22#32
  let v1158 : BitVec 32 := Scalar.addi v2 c22_i32_707
  let c32_i32_708 : BitVec 32 := 32#32
  let c0_i32_709 : BitVec 32 := 0#32
  let v1159 : BitVec 1 := Scalar.cmpi .eq c32_i32_708 c0_i32_709
  let c1_i32_710 : BitVec 32 := 1#32
  let v1160 : BitVec 32 := Scalar.select v1159 c1_i32_710 c32_i32_708
  let v1161 : BitVec 32 := Scalar.remsi v1158 v1160
  let c0_i32_712 : BitVec 32 := 0#32
  let v1163 : BitVec 1 := Scalar.cmpi .slt v1161 c0_i32_712
  let c0_i32_713 : BitVec 32 := 0#32
  let v1164 : BitVec 1 := Scalar.cmpi .slt v1160 c0_i32_713
  let v1165 : BitVec 1 := Scalar.xori v1163 v1164
  let c0_i32_711 : BitVec 32 := 0#32
  let v1162 : BitVec 1 := Scalar.cmpi .ne v1161 c0_i32_711
  let v1166 : BitVec 1 := Scalar.andi v1165 v1162
  let v1167 : BitVec 32 := Scalar.addi v1161 v1160
  let v1168 : BitVec 32 := Scalar.select v1166 v1167 v1161
  let c1_i32_715 : BitVec 32 := 1#32
  let v1170 : BitVec 32 := Scalar.muli v1168 c1_i32_715
  let v1171 : BitVec 32 := Scalar.addi c0_i32_716 v1170
  v1171.toNat
def k0_dev75 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_707 : BitVec 32 := 22#32
  let v1158 : BitVec 32 := Scalar.addi v2 c22_i32_707
  let c32_i32_708 : BitVec 32 := 32#32
  let c0_i32_709 : BitVec 32 := 0#32
  let v1159 : BitVec 1 := Scalar.cmpi .eq c32_i32_708 c0_i32_709
  let c1_i32_710 : BitVec 32 := 1#32
  let v1160 : BitVec 32 := Scalar.select v1159 c1_i32_710 c32_i32_708
  let v1161 : BitVec 32 := Scalar.remsi v1158 v1160
  let c0_i32_712 : BitVec 32 := 0#32
  let v1163 : BitVec 1 := Scalar.cmpi .slt v1161 c0_i32_712
  let c0_i32_713 : BitVec 32 := 0#32
  let v1164 : BitVec 1 := Scalar.cmpi .slt v1160 c0_i32_713
  let v1165 : BitVec 1 := Scalar.xori v1163 v1164
  let c0_i32_711 : BitVec 32 := 0#32
  let v1162 : BitVec 1 := Scalar.cmpi .ne v1161 c0_i32_711
  let v1166 : BitVec 1 := Scalar.andi v1165 v1162
  let v1167 : BitVec 32 := Scalar.addi v1161 v1160
  let v1168 : BitVec 32 := Scalar.select v1166 v1167 v1161
  let c1_i32_720 : BitVec 32 := 1#32
  let v1179 : BitVec 32 := Scalar.muli v1168 c1_i32_720
  let v1180 : BitVec 32 := Scalar.addi c0_i32_721 v1179
  v1180.toNat
def k0_dev76 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_724 : BitVec 32 := 23#32
  let v1187 : BitVec 32 := Scalar.addi v2 c23_i32_724
  let c32_i32_725 : BitVec 32 := 32#32
  let c0_i32_726 : BitVec 32 := 0#32
  let v1188 : BitVec 1 := Scalar.cmpi .eq c32_i32_725 c0_i32_726
  let c1_i32_727 : BitVec 32 := 1#32
  let v1189 : BitVec 32 := Scalar.select v1188 c1_i32_727 c32_i32_725
  let v1190 : BitVec 32 := Scalar.remsi v1187 v1189
  let c0_i32_729 : BitVec 32 := 0#32
  let v1192 : BitVec 1 := Scalar.cmpi .slt v1190 c0_i32_729
  let c0_i32_730 : BitVec 32 := 0#32
  let v1193 : BitVec 1 := Scalar.cmpi .slt v1189 c0_i32_730
  let v1194 : BitVec 1 := Scalar.xori v1192 v1193
  let c0_i32_728 : BitVec 32 := 0#32
  let v1191 : BitVec 1 := Scalar.cmpi .ne v1190 c0_i32_728
  let v1195 : BitVec 1 := Scalar.andi v1194 v1191
  let v1196 : BitVec 32 := Scalar.addi v1190 v1189
  let v1197 : BitVec 32 := Scalar.select v1195 v1196 v1190
  let c1_i32_732 : BitVec 32 := 1#32
  let v1199 : BitVec 32 := Scalar.muli v1197 c1_i32_732
  let v1200 : BitVec 32 := Scalar.addi c0_i32_733 v1199
  v1200.toNat
def k0_dev77 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_724 : BitVec 32 := 23#32
  let v1187 : BitVec 32 := Scalar.addi v2 c23_i32_724
  let c32_i32_725 : BitVec 32 := 32#32
  let c0_i32_726 : BitVec 32 := 0#32
  let v1188 : BitVec 1 := Scalar.cmpi .eq c32_i32_725 c0_i32_726
  let c1_i32_727 : BitVec 32 := 1#32
  let v1189 : BitVec 32 := Scalar.select v1188 c1_i32_727 c32_i32_725
  let v1190 : BitVec 32 := Scalar.remsi v1187 v1189
  let c0_i32_729 : BitVec 32 := 0#32
  let v1192 : BitVec 1 := Scalar.cmpi .slt v1190 c0_i32_729
  let c0_i32_730 : BitVec 32 := 0#32
  let v1193 : BitVec 1 := Scalar.cmpi .slt v1189 c0_i32_730
  let v1194 : BitVec 1 := Scalar.xori v1192 v1193
  let c0_i32_728 : BitVec 32 := 0#32
  let v1191 : BitVec 1 := Scalar.cmpi .ne v1190 c0_i32_728
  let v1195 : BitVec 1 := Scalar.andi v1194 v1191
  let v1196 : BitVec 32 := Scalar.addi v1190 v1189
  let v1197 : BitVec 32 := Scalar.select v1195 v1196 v1190
  let c1_i32_737 : BitVec 32 := 1#32
  let v1208 : BitVec 32 := Scalar.muli v1197 c1_i32_737
  let v1209 : BitVec 32 := Scalar.addi c0_i32_738 v1208
  v1209.toNat
def k0_dev78 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_741 : BitVec 32 := 24#32
  let v1216 : BitVec 32 := Scalar.addi v2 c24_i32_741
  let c32_i32_742 : BitVec 32 := 32#32
  let c0_i32_743 : BitVec 32 := 0#32
  let v1217 : BitVec 1 := Scalar.cmpi .eq c32_i32_742 c0_i32_743
  let c1_i32_744 : BitVec 32 := 1#32
  let v1218 : BitVec 32 := Scalar.select v1217 c1_i32_744 c32_i32_742
  let v1219 : BitVec 32 := Scalar.remsi v1216 v1218
  let c0_i32_746 : BitVec 32 := 0#32
  let v1221 : BitVec 1 := Scalar.cmpi .slt v1219 c0_i32_746
  let c0_i32_747 : BitVec 32 := 0#32
  let v1222 : BitVec 1 := Scalar.cmpi .slt v1218 c0_i32_747
  let v1223 : BitVec 1 := Scalar.xori v1221 v1222
  let c0_i32_745 : BitVec 32 := 0#32
  let v1220 : BitVec 1 := Scalar.cmpi .ne v1219 c0_i32_745
  let v1224 : BitVec 1 := Scalar.andi v1223 v1220
  let v1225 : BitVec 32 := Scalar.addi v1219 v1218
  let v1226 : BitVec 32 := Scalar.select v1224 v1225 v1219
  let c1_i32_749 : BitVec 32 := 1#32
  let v1228 : BitVec 32 := Scalar.muli v1226 c1_i32_749
  let v1229 : BitVec 32 := Scalar.addi c0_i32_750 v1228
  v1229.toNat
def k0_dev79 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_741 : BitVec 32 := 24#32
  let v1216 : BitVec 32 := Scalar.addi v2 c24_i32_741
  let c32_i32_742 : BitVec 32 := 32#32
  let c0_i32_743 : BitVec 32 := 0#32
  let v1217 : BitVec 1 := Scalar.cmpi .eq c32_i32_742 c0_i32_743
  let c1_i32_744 : BitVec 32 := 1#32
  let v1218 : BitVec 32 := Scalar.select v1217 c1_i32_744 c32_i32_742
  let v1219 : BitVec 32 := Scalar.remsi v1216 v1218
  let c0_i32_746 : BitVec 32 := 0#32
  let v1221 : BitVec 1 := Scalar.cmpi .slt v1219 c0_i32_746
  let c0_i32_747 : BitVec 32 := 0#32
  let v1222 : BitVec 1 := Scalar.cmpi .slt v1218 c0_i32_747
  let v1223 : BitVec 1 := Scalar.xori v1221 v1222
  let c0_i32_745 : BitVec 32 := 0#32
  let v1220 : BitVec 1 := Scalar.cmpi .ne v1219 c0_i32_745
  let v1224 : BitVec 1 := Scalar.andi v1223 v1220
  let v1225 : BitVec 32 := Scalar.addi v1219 v1218
  let v1226 : BitVec 32 := Scalar.select v1224 v1225 v1219
  let c1_i32_754 : BitVec 32 := 1#32
  let v1237 : BitVec 32 := Scalar.muli v1226 c1_i32_754
  let v1238 : BitVec 32 := Scalar.addi c0_i32_755 v1237
  v1238.toNat
def k0_dev80 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_758 : BitVec 32 := 25#32
  let v1245 : BitVec 32 := Scalar.addi v2 c25_i32_758
  let c32_i32_759 : BitVec 32 := 32#32
  let c0_i32_760 : BitVec 32 := 0#32
  let v1246 : BitVec 1 := Scalar.cmpi .eq c32_i32_759 c0_i32_760
  let c1_i32_761 : BitVec 32 := 1#32
  let v1247 : BitVec 32 := Scalar.select v1246 c1_i32_761 c32_i32_759
  let v1248 : BitVec 32 := Scalar.remsi v1245 v1247
  let c0_i32_763 : BitVec 32 := 0#32
  let v1250 : BitVec 1 := Scalar.cmpi .slt v1248 c0_i32_763
  let c0_i32_764 : BitVec 32 := 0#32
  let v1251 : BitVec 1 := Scalar.cmpi .slt v1247 c0_i32_764
  let v1252 : BitVec 1 := Scalar.xori v1250 v1251
  let c0_i32_762 : BitVec 32 := 0#32
  let v1249 : BitVec 1 := Scalar.cmpi .ne v1248 c0_i32_762
  let v1253 : BitVec 1 := Scalar.andi v1252 v1249
  let v1254 : BitVec 32 := Scalar.addi v1248 v1247
  let v1255 : BitVec 32 := Scalar.select v1253 v1254 v1248
  let c1_i32_766 : BitVec 32 := 1#32
  let v1257 : BitVec 32 := Scalar.muli v1255 c1_i32_766
  let v1258 : BitVec 32 := Scalar.addi c0_i32_767 v1257
  v1258.toNat
def k0_dev81 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_758 : BitVec 32 := 25#32
  let v1245 : BitVec 32 := Scalar.addi v2 c25_i32_758
  let c32_i32_759 : BitVec 32 := 32#32
  let c0_i32_760 : BitVec 32 := 0#32
  let v1246 : BitVec 1 := Scalar.cmpi .eq c32_i32_759 c0_i32_760
  let c1_i32_761 : BitVec 32 := 1#32
  let v1247 : BitVec 32 := Scalar.select v1246 c1_i32_761 c32_i32_759
  let v1248 : BitVec 32 := Scalar.remsi v1245 v1247
  let c0_i32_763 : BitVec 32 := 0#32
  let v1250 : BitVec 1 := Scalar.cmpi .slt v1248 c0_i32_763
  let c0_i32_764 : BitVec 32 := 0#32
  let v1251 : BitVec 1 := Scalar.cmpi .slt v1247 c0_i32_764
  let v1252 : BitVec 1 := Scalar.xori v1250 v1251
  let c0_i32_762 : BitVec 32 := 0#32
  let v1249 : BitVec 1 := Scalar.cmpi .ne v1248 c0_i32_762
  let v1253 : BitVec 1 := Scalar.andi v1252 v1249
  let v1254 : BitVec 32 := Scalar.addi v1248 v1247
  let v1255 : BitVec 32 := Scalar.select v1253 v1254 v1248
  let c1_i32_771 : BitVec 32 := 1#32
  let v1266 : BitVec 32 := Scalar.muli v1255 c1_i32_771
  let v1267 : BitVec 32 := Scalar.addi c0_i32_772 v1266
  v1267.toNat
def k0_dev82 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_775 : BitVec 32 := 26#32
  let v1274 : BitVec 32 := Scalar.addi v2 c26_i32_775
  let c32_i32_776 : BitVec 32 := 32#32
  let c0_i32_777 : BitVec 32 := 0#32
  let v1275 : BitVec 1 := Scalar.cmpi .eq c32_i32_776 c0_i32_777
  let c1_i32_778 : BitVec 32 := 1#32
  let v1276 : BitVec 32 := Scalar.select v1275 c1_i32_778 c32_i32_776
  let v1277 : BitVec 32 := Scalar.remsi v1274 v1276
  let c0_i32_780 : BitVec 32 := 0#32
  let v1279 : BitVec 1 := Scalar.cmpi .slt v1277 c0_i32_780
  let c0_i32_781 : BitVec 32 := 0#32
  let v1280 : BitVec 1 := Scalar.cmpi .slt v1276 c0_i32_781
  let v1281 : BitVec 1 := Scalar.xori v1279 v1280
  let c0_i32_779 : BitVec 32 := 0#32
  let v1278 : BitVec 1 := Scalar.cmpi .ne v1277 c0_i32_779
  let v1282 : BitVec 1 := Scalar.andi v1281 v1278
  let v1283 : BitVec 32 := Scalar.addi v1277 v1276
  let v1284 : BitVec 32 := Scalar.select v1282 v1283 v1277
  let c1_i32_783 : BitVec 32 := 1#32
  let v1286 : BitVec 32 := Scalar.muli v1284 c1_i32_783
  let v1287 : BitVec 32 := Scalar.addi c0_i32_784 v1286
  v1287.toNat
def k0_dev83 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_775 : BitVec 32 := 26#32
  let v1274 : BitVec 32 := Scalar.addi v2 c26_i32_775
  let c32_i32_776 : BitVec 32 := 32#32
  let c0_i32_777 : BitVec 32 := 0#32
  let v1275 : BitVec 1 := Scalar.cmpi .eq c32_i32_776 c0_i32_777
  let c1_i32_778 : BitVec 32 := 1#32
  let v1276 : BitVec 32 := Scalar.select v1275 c1_i32_778 c32_i32_776
  let v1277 : BitVec 32 := Scalar.remsi v1274 v1276
  let c0_i32_780 : BitVec 32 := 0#32
  let v1279 : BitVec 1 := Scalar.cmpi .slt v1277 c0_i32_780
  let c0_i32_781 : BitVec 32 := 0#32
  let v1280 : BitVec 1 := Scalar.cmpi .slt v1276 c0_i32_781
  let v1281 : BitVec 1 := Scalar.xori v1279 v1280
  let c0_i32_779 : BitVec 32 := 0#32
  let v1278 : BitVec 1 := Scalar.cmpi .ne v1277 c0_i32_779
  let v1282 : BitVec 1 := Scalar.andi v1281 v1278
  let v1283 : BitVec 32 := Scalar.addi v1277 v1276
  let v1284 : BitVec 32 := Scalar.select v1282 v1283 v1277
  let c1_i32_788 : BitVec 32 := 1#32
  let v1295 : BitVec 32 := Scalar.muli v1284 c1_i32_788
  let v1296 : BitVec 32 := Scalar.addi c0_i32_789 v1295
  v1296.toNat
def k0_dev84 (d0 : Dev nD) : Nat :=
  let c0_i32_801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_792 : BitVec 32 := 27#32
  let v1303 : BitVec 32 := Scalar.addi v2 c27_i32_792
  let c32_i32_793 : BitVec 32 := 32#32
  let c0_i32_794 : BitVec 32 := 0#32
  let v1304 : BitVec 1 := Scalar.cmpi .eq c32_i32_793 c0_i32_794
  let c1_i32_795 : BitVec 32 := 1#32
  let v1305 : BitVec 32 := Scalar.select v1304 c1_i32_795 c32_i32_793
  let v1306 : BitVec 32 := Scalar.remsi v1303 v1305
  let c0_i32_797 : BitVec 32 := 0#32
  let v1308 : BitVec 1 := Scalar.cmpi .slt v1306 c0_i32_797
  let c0_i32_798 : BitVec 32 := 0#32
  let v1309 : BitVec 1 := Scalar.cmpi .slt v1305 c0_i32_798
  let v1310 : BitVec 1 := Scalar.xori v1308 v1309
  let c0_i32_796 : BitVec 32 := 0#32
  let v1307 : BitVec 1 := Scalar.cmpi .ne v1306 c0_i32_796
  let v1311 : BitVec 1 := Scalar.andi v1310 v1307
  let v1312 : BitVec 32 := Scalar.addi v1306 v1305
  let v1313 : BitVec 32 := Scalar.select v1311 v1312 v1306
  let c1_i32_800 : BitVec 32 := 1#32
  let v1315 : BitVec 32 := Scalar.muli v1313 c1_i32_800
  let v1316 : BitVec 32 := Scalar.addi c0_i32_801 v1315
  v1316.toNat
def k0_dev85 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_792 : BitVec 32 := 27#32
  let v1303 : BitVec 32 := Scalar.addi v2 c27_i32_792
  let c32_i32_793 : BitVec 32 := 32#32
  let c0_i32_794 : BitVec 32 := 0#32
  let v1304 : BitVec 1 := Scalar.cmpi .eq c32_i32_793 c0_i32_794
  let c1_i32_795 : BitVec 32 := 1#32
  let v1305 : BitVec 32 := Scalar.select v1304 c1_i32_795 c32_i32_793
  let v1306 : BitVec 32 := Scalar.remsi v1303 v1305
  let c0_i32_797 : BitVec 32 := 0#32
  let v1308 : BitVec 1 := Scalar.cmpi .slt v1306 c0_i32_797
  let c0_i32_798 : BitVec 32 := 0#32
  let v1309 : BitVec 1 := Scalar.cmpi .slt v1305 c0_i32_798
  let v1310 : BitVec 1 := Scalar.xori v1308 v1309
  let c0_i32_796 : BitVec 32 := 0#32
  let v1307 : BitVec 1 := Scalar.cmpi .ne v1306 c0_i32_796
  let v1311 : BitVec 1 := Scalar.andi v1310 v1307
  let v1312 : BitVec 32 := Scalar.addi v1306 v1305
  let v1313 : BitVec 32 := Scalar.select v1311 v1312 v1306
  let c1_i32_805 : BitVec 32 := 1#32
  let v1324 : BitVec 32 := Scalar.muli v1313 c1_i32_805
  let v1325 : BitVec 32 := Scalar.addi c0_i32_806 v1324
  v1325.toNat
def k0_dev86 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_809 : BitVec 32 := 28#32
  let v1332 : BitVec 32 := Scalar.addi v2 c28_i32_809
  let c32_i32_810 : BitVec 32 := 32#32
  let c0_i32_811 : BitVec 32 := 0#32
  let v1333 : BitVec 1 := Scalar.cmpi .eq c32_i32_810 c0_i32_811
  let c1_i32_812 : BitVec 32 := 1#32
  let v1334 : BitVec 32 := Scalar.select v1333 c1_i32_812 c32_i32_810
  let v1335 : BitVec 32 := Scalar.remsi v1332 v1334
  let c0_i32_814 : BitVec 32 := 0#32
  let v1337 : BitVec 1 := Scalar.cmpi .slt v1335 c0_i32_814
  let c0_i32_815 : BitVec 32 := 0#32
  let v1338 : BitVec 1 := Scalar.cmpi .slt v1334 c0_i32_815
  let v1339 : BitVec 1 := Scalar.xori v1337 v1338
  let c0_i32_813 : BitVec 32 := 0#32
  let v1336 : BitVec 1 := Scalar.cmpi .ne v1335 c0_i32_813
  let v1340 : BitVec 1 := Scalar.andi v1339 v1336
  let v1341 : BitVec 32 := Scalar.addi v1335 v1334
  let v1342 : BitVec 32 := Scalar.select v1340 v1341 v1335
  let c1_i32_817 : BitVec 32 := 1#32
  let v1344 : BitVec 32 := Scalar.muli v1342 c1_i32_817
  let v1345 : BitVec 32 := Scalar.addi c0_i32_818 v1344
  v1345.toNat
def k0_dev87 (d0 : Dev nD) : Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_809 : BitVec 32 := 28#32
  let v1332 : BitVec 32 := Scalar.addi v2 c28_i32_809
  let c32_i32_810 : BitVec 32 := 32#32
  let c0_i32_811 : BitVec 32 := 0#32
  let v1333 : BitVec 1 := Scalar.cmpi .eq c32_i32_810 c0_i32_811
  let c1_i32_812 : BitVec 32 := 1#32
  let v1334 : BitVec 32 := Scalar.select v1333 c1_i32_812 c32_i32_810
  let v1335 : BitVec 32 := Scalar.remsi v1332 v1334
  let c0_i32_814 : BitVec 32 := 0#32
  let v1337 : BitVec 1 := Scalar.cmpi .slt v1335 c0_i32_814
  let c0_i32_815 : BitVec 32 := 0#32
  let v1338 : BitVec 1 := Scalar.cmpi .slt v1334 c0_i32_815
  let v1339 : BitVec 1 := Scalar.xori v1337 v1338
  let c0_i32_813 : BitVec 32 := 0#32
  let v1336 : BitVec 1 := Scalar.cmpi .ne v1335 c0_i32_813
  let v1340 : BitVec 1 := Scalar.andi v1339 v1336
  let v1341 : BitVec 32 := Scalar.addi v1335 v1334
  let v1342 : BitVec 32 := Scalar.select v1340 v1341 v1335
  let c1_i32_822 : BitVec 32 := 1#32
  let v1353 : BitVec 32 := Scalar.muli v1342 c1_i32_822
  let v1354 : BitVec 32 := Scalar.addi c0_i32_823 v1353
  v1354.toNat
def k0_dev88 (d0 : Dev nD) : Nat :=
  let c0_i32_835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_826 : BitVec 32 := 29#32
  let v1361 : BitVec 32 := Scalar.addi v2 c29_i32_826
  let c32_i32_827 : BitVec 32 := 32#32
  let c0_i32_828 : BitVec 32 := 0#32
  let v1362 : BitVec 1 := Scalar.cmpi .eq c32_i32_827 c0_i32_828
  let c1_i32_829 : BitVec 32 := 1#32
  let v1363 : BitVec 32 := Scalar.select v1362 c1_i32_829 c32_i32_827
  let v1364 : BitVec 32 := Scalar.remsi v1361 v1363
  let c0_i32_831 : BitVec 32 := 0#32
  let v1366 : BitVec 1 := Scalar.cmpi .slt v1364 c0_i32_831
  let c0_i32_832 : BitVec 32 := 0#32
  let v1367 : BitVec 1 := Scalar.cmpi .slt v1363 c0_i32_832
  let v1368 : BitVec 1 := Scalar.xori v1366 v1367
  let c0_i32_830 : BitVec 32 := 0#32
  let v1365 : BitVec 1 := Scalar.cmpi .ne v1364 c0_i32_830
  let v1369 : BitVec 1 := Scalar.andi v1368 v1365
  let v1370 : BitVec 32 := Scalar.addi v1364 v1363
  let v1371 : BitVec 32 := Scalar.select v1369 v1370 v1364
  let c1_i32_834 : BitVec 32 := 1#32
  let v1373 : BitVec 32 := Scalar.muli v1371 c1_i32_834
  let v1374 : BitVec 32 := Scalar.addi c0_i32_835 v1373
  v1374.toNat
def k0_dev89 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_826 : BitVec 32 := 29#32
  let v1361 : BitVec 32 := Scalar.addi v2 c29_i32_826
  let c32_i32_827 : BitVec 32 := 32#32
  let c0_i32_828 : BitVec 32 := 0#32
  let v1362 : BitVec 1 := Scalar.cmpi .eq c32_i32_827 c0_i32_828
  let c1_i32_829 : BitVec 32 := 1#32
  let v1363 : BitVec 32 := Scalar.select v1362 c1_i32_829 c32_i32_827
  let v1364 : BitVec 32 := Scalar.remsi v1361 v1363
  let c0_i32_831 : BitVec 32 := 0#32
  let v1366 : BitVec 1 := Scalar.cmpi .slt v1364 c0_i32_831
  let c0_i32_832 : BitVec 32 := 0#32
  let v1367 : BitVec 1 := Scalar.cmpi .slt v1363 c0_i32_832
  let v1368 : BitVec 1 := Scalar.xori v1366 v1367
  let c0_i32_830 : BitVec 32 := 0#32
  let v1365 : BitVec 1 := Scalar.cmpi .ne v1364 c0_i32_830
  let v1369 : BitVec 1 := Scalar.andi v1368 v1365
  let v1370 : BitVec 32 := Scalar.addi v1364 v1363
  let v1371 : BitVec 32 := Scalar.select v1369 v1370 v1364
  let c1_i32_839 : BitVec 32 := 1#32
  let v1382 : BitVec 32 := Scalar.muli v1371 c1_i32_839
  let v1383 : BitVec 32 := Scalar.addi c0_i32_840 v1382
  v1383.toNat
def k0_dev90 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_843 : BitVec 32 := 30#32
  let v1390 : BitVec 32 := Scalar.addi v2 c30_i32_843
  let c32_i32_844 : BitVec 32 := 32#32
  let c0_i32_845 : BitVec 32 := 0#32
  let v1391 : BitVec 1 := Scalar.cmpi .eq c32_i32_844 c0_i32_845
  let c1_i32_846 : BitVec 32 := 1#32
  let v1392 : BitVec 32 := Scalar.select v1391 c1_i32_846 c32_i32_844
  let v1393 : BitVec 32 := Scalar.remsi v1390 v1392
  let c0_i32_848 : BitVec 32 := 0#32
  let v1395 : BitVec 1 := Scalar.cmpi .slt v1393 c0_i32_848
  let c0_i32_849 : BitVec 32 := 0#32
  let v1396 : BitVec 1 := Scalar.cmpi .slt v1392 c0_i32_849
  let v1397 : BitVec 1 := Scalar.xori v1395 v1396
  let c0_i32_847 : BitVec 32 := 0#32
  let v1394 : BitVec 1 := Scalar.cmpi .ne v1393 c0_i32_847
  let v1398 : BitVec 1 := Scalar.andi v1397 v1394
  let v1399 : BitVec 32 := Scalar.addi v1393 v1392
  let v1400 : BitVec 32 := Scalar.select v1398 v1399 v1393
  let c1_i32_851 : BitVec 32 := 1#32
  let v1402 : BitVec 32 := Scalar.muli v1400 c1_i32_851
  let v1403 : BitVec 32 := Scalar.addi c0_i32_852 v1402
  v1403.toNat
def k0_dev91 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_843 : BitVec 32 := 30#32
  let v1390 : BitVec 32 := Scalar.addi v2 c30_i32_843
  let c32_i32_844 : BitVec 32 := 32#32
  let c0_i32_845 : BitVec 32 := 0#32
  let v1391 : BitVec 1 := Scalar.cmpi .eq c32_i32_844 c0_i32_845
  let c1_i32_846 : BitVec 32 := 1#32
  let v1392 : BitVec 32 := Scalar.select v1391 c1_i32_846 c32_i32_844
  let v1393 : BitVec 32 := Scalar.remsi v1390 v1392
  let c0_i32_848 : BitVec 32 := 0#32
  let v1395 : BitVec 1 := Scalar.cmpi .slt v1393 c0_i32_848
  let c0_i32_849 : BitVec 32 := 0#32
  let v1396 : BitVec 1 := Scalar.cmpi .slt v1392 c0_i32_849
  let v1397 : BitVec 1 := Scalar.xori v1395 v1396
  let c0_i32_847 : BitVec 32 := 0#32
  let v1394 : BitVec 1 := Scalar.cmpi .ne v1393 c0_i32_847
  let v1398 : BitVec 1 := Scalar.andi v1397 v1394
  let v1399 : BitVec 32 := Scalar.addi v1393 v1392
  let v1400 : BitVec 32 := Scalar.select v1398 v1399 v1393
  let c1_i32_856 : BitVec 32 := 1#32
  let v1411 : BitVec 32 := Scalar.muli v1400 c1_i32_856
  let v1412 : BitVec 32 := Scalar.addi c0_i32_857 v1411
  v1412.toNat
def k0_dev92 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_860 : BitVec 32 := 31#32
  let v1419 : BitVec 32 := Scalar.addi v2 c31_i32_860
  let c32_i32_861 : BitVec 32 := 32#32
  let c0_i32_862 : BitVec 32 := 0#32
  let v1420 : BitVec 1 := Scalar.cmpi .eq c32_i32_861 c0_i32_862
  let c1_i32_863 : BitVec 32 := 1#32
  let v1421 : BitVec 32 := Scalar.select v1420 c1_i32_863 c32_i32_861
  let v1422 : BitVec 32 := Scalar.remsi v1419 v1421
  let c0_i32_865 : BitVec 32 := 0#32
  let v1424 : BitVec 1 := Scalar.cmpi .slt v1422 c0_i32_865
  let c0_i32_866 : BitVec 32 := 0#32
  let v1425 : BitVec 1 := Scalar.cmpi .slt v1421 c0_i32_866
  let v1426 : BitVec 1 := Scalar.xori v1424 v1425
  let c0_i32_864 : BitVec 32 := 0#32
  let v1423 : BitVec 1 := Scalar.cmpi .ne v1422 c0_i32_864
  let v1427 : BitVec 1 := Scalar.andi v1426 v1423
  let v1428 : BitVec 32 := Scalar.addi v1422 v1421
  let v1429 : BitVec 32 := Scalar.select v1427 v1428 v1422
  let c1_i32_868 : BitVec 32 := 1#32
  let v1431 : BitVec 32 := Scalar.muli v1429 c1_i32_868
  let v1432 : BitVec 32 := Scalar.addi c0_i32_869 v1431
  v1432.toNat
def k0_dev93 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_860 : BitVec 32 := 31#32
  let v1419 : BitVec 32 := Scalar.addi v2 c31_i32_860
  let c32_i32_861 : BitVec 32 := 32#32
  let c0_i32_862 : BitVec 32 := 0#32
  let v1420 : BitVec 1 := Scalar.cmpi .eq c32_i32_861 c0_i32_862
  let c1_i32_863 : BitVec 32 := 1#32
  let v1421 : BitVec 32 := Scalar.select v1420 c1_i32_863 c32_i32_861
  let v1422 : BitVec 32 := Scalar.remsi v1419 v1421
  let c0_i32_865 : BitVec 32 := 0#32
  let v1424 : BitVec 1 := Scalar.cmpi .slt v1422 c0_i32_865
  let c0_i32_866 : BitVec 32 := 0#32
  let v1425 : BitVec 1 := Scalar.cmpi .slt v1421 c0_i32_866
  let v1426 : BitVec 1 := Scalar.xori v1424 v1425
  let c0_i32_864 : BitVec 32 := 0#32
  let v1423 : BitVec 1 := Scalar.cmpi .ne v1422 c0_i32_864
  let v1427 : BitVec 1 := Scalar.andi v1426 v1423
  let v1428 : BitVec 32 := Scalar.addi v1422 v1421
  let v1429 : BitVec 32 := Scalar.select v1427 v1428 v1422
  let c1_i32_873 : BitVec 32 := 1#32
  let v1440 : BitVec 32 := Scalar.muli v1429 c1_i32_873
  let v1441 : BitVec 32 := Scalar.addi c0_i32_874 v1440
  v1441.toNat
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1448 : Index := Scalar.indexCast v2
  let c0_877 : Index := 0#32
  let c0_878 : Index := 0#32
  ![v1448.toNat, 0, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_879 : BitVec 32 := 128#32
  let v1451 : BitVec 32 := Scalar.muli v2 c128_i32_879
  let v1452 : Index := Scalar.indexCast v1451
  let c0_880 : Index := 0#32
  ![v1452.toNat, 0]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1456 : Index := Scalar.indexCast v2
  let c0_883 : Index := 0#32
  let c0_884 : Index := 0#32
  ![v1456.toNat, 0, 0]
def k0_off9 (d0 : Dev nD) (c1_i32_885 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1460 : BitVec 32 := Scalar.addi v2 c1_i32_885
  let c32_i32_886 : BitVec 32 := 32#32
  let c0_i32_887 : BitVec 32 := 0#32
  let v1461 : BitVec 1 := Scalar.cmpi .eq c32_i32_886 c0_i32_887
  let c1_i32_888 : BitVec 32 := 1#32
  let v1462 : BitVec 32 := Scalar.select v1461 c1_i32_888 c32_i32_886
  let v1463 : BitVec 32 := Scalar.remsi v1460 v1462
  let c0_i32_890 : BitVec 32 := 0#32
  let v1465 : BitVec 1 := Scalar.cmpi .slt v1463 c0_i32_890
  let c0_i32_891 : BitVec 32 := 0#32
  let v1466 : BitVec 1 := Scalar.cmpi .slt v1462 c0_i32_891
  let v1467 : BitVec 1 := Scalar.xori v1465 v1466
  let c0_i32_889 : BitVec 32 := 0#32
  let v1464 : BitVec 1 := Scalar.cmpi .ne v1463 c0_i32_889
  let v1468 : BitVec 1 := Scalar.andi v1467 v1464
  let v1469 : BitVec 32 := Scalar.addi v1463 v1462
  let v1470 : BitVec 32 := Scalar.select v1468 v1469 v1463
  let c0_i32_894 : BitVec 32 := 0#32
  let c0_i32_895 : BitVec 32 := 0#32
  ![v1470.toNat, 0, 0]
def k0_off10 (d0 : Dev nD) (c1_i32_1226 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1987 : BitVec 32 := Scalar.addi v2 c1_i32_1226
  let c32_i32_1227 : BitVec 32 := 32#32
  let c0_i32_1228 : BitVec 32 := 0#32
  let v1988 : BitVec 1 := Scalar.cmpi .eq c32_i32_1227 c0_i32_1228
  let c1_i32_1229 : BitVec 32 := 1#32
  let v1989 : BitVec 32 := Scalar.select v1988 c1_i32_1229 c32_i32_1227
  let v1990 : BitVec 32 := Scalar.remsi v1987 v1989
  let c0_i32_1231 : BitVec 32 := 0#32
  let v1992 : BitVec 1 := Scalar.cmpi .slt v1990 c0_i32_1231
  let c0_i32_1232 : BitVec 32 := 0#32
  let v1993 : BitVec 1 := Scalar.cmpi .slt v1989 c0_i32_1232
  let v1994 : BitVec 1 := Scalar.xori v1992 v1993
  let c0_i32_1230 : BitVec 32 := 0#32
  let v1991 : BitVec 1 := Scalar.cmpi .ne v1990 c0_i32_1230
  let v1995 : BitVec 1 := Scalar.andi v1994 v1991
  let v1996 : BitVec 32 := Scalar.addi v1990 v1989
  let v1997 : BitVec 32 := Scalar.select v1995 v1996 v1990
  let c128_i32_1233 : BitVec 32 := 128#32
  let v1998 : BitVec 32 := Scalar.muli v1997 c128_i32_1233
  let c0_i32_1237 : BitVec 32 := 0#32
  ![v1998.toNat, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.lean ====
/-
# The kernel body as a program of seven loops

The printed body is one straight line of some three hundred memory operations, every run of which is the
same step at the 31 hops `1 … 31` (or the 32 column blocks). Here it is written as it was meant: a loop of
barrier signals, the barrier wait, the product and its 32 stores, the largest magnitude, a loop of transfers, the own
block's copies, two loops of arrival waits, the rescaling, a loop of departure waits. `cc0_body_eq` says that the
printed body is this program.
-/
module

public import proofs.«01_k».proof.Proof.Gen.KernelIdeal
public import proofs.«01_k».proof.Proof.Gen.KernelIdeal.Skeleton

@[expose] public section

noncomputable section

namespace Cert.KernelIdeal.Run

open Idealize.ShloMosaic Idealize.SL.Sem
open Cert.KernelIdeal Cert.KernelIdeal.Gen

variable {F : FTy → Type} [FloatOps F]

/-- A program of one device's core. -/
abbrev P (F : FTy → Type) (α : Type) : Type 1 := Prog (TpuEff nD τ sig (Elt F) Λ₀ .tc) α

/-- One step for each entry of a list, in order. -/
def loop {ι : Type} (step : ι → P F PUnit) : List ι → P F PUnit
  | [] => pure ⟨⟩
  | i :: is => do step i; loop step is

/-- The 31 hops, hop `r` standing for the distance `1 + r`. -/
abbrev hops : List (Fin 31) :=
  [0, 1, 2, 3, 4, 5, 6, 7, 8, 9, 10, 11, 12, 13, 14, 15, 16, 17, 18, 19, 20, 21, 22, 23, 24, 25, 26, 27, 28, 29, 30]

/-- The 32 column blocks. -/
abbrev blocks : List (Fin 32) :=
  [0, 1, 2, 3, 4, 5, 6, 7, 8, 9, 10, 11, 12, 13, 14, 15, 16, 17, 18, 19, 20, 21, 22, 23, 24, 25, 26, 27, 28, 29, 30, 31]

/-- The distance of hop `r` as the kernel's word. -/
abbrev dist (r : Fin 31) : BitVec 32 := BitVec.ofNat 32 (1 + r.val)

/-- The device a distance `w` after `d0`, as the kernel computes its logical id: `(d0 + w) mod 32`, written with the
    sign repairs of a floored remainder. -/
def devAt (d0 : Dev nD) (w : BitVec 32) : Nat :=
  let v2 : BitVec 32 := Scalar.remsi (Scalar.divsi (Dev.word d0) 1#32) 32#32
  let v4 : BitVec 32 := Scalar.addi v2 w
  let v6 : BitVec 32 := Scalar.select (Scalar.cmpi .eq 32#32 0#32) 1#32 32#32
  let v7 : BitVec 32 := Scalar.remsi v4 v6
  let v11 : BitVec 1 := Scalar.xori (Scalar.cmpi .slt v7 0#32) (Scalar.cmpi .slt v6 0#32)
  let v12 : BitVec 1 := Scalar.andi v11 (Scalar.cmpi .ne v7 0#32)
  let v14 : BitVec 32 := Scalar.select v12 (Scalar.addi v7 v6) v7
  (Scalar.addi 0#32 (Scalar.muli v14 1#32)).toNat

theorem devAt_eq : ∀ d0 : Dev nD, ∀ r : Fin 31, devAt d0 (dist r) = (d0.val + 1 + r.val) % 32 := by decide +kernel
theorem devAt_lt (d0 : Dev nD) (r : Fin 31) : devAt d0 (dist r) < nD := by rw [devAt_eq]; exact Nat.mod_lt _ (by decide)

theorem inb_slab (j : Fin 32) : ∀ a, (![j.val, 0, 0] : Fin 3 → Nat) a + S1x128x64.size a ≤ S32x128x64.size a := by
  revert j; decide +kernel
theorem slices_block (j : Fin 32) : S128x2048.Slices ![0, 64 * j.val] S128x64 := by revert j; decide +kernel

/-- Column block `j` of the product, as the kernel stores it: `128 × 64` with a leading axis of one. -/
def blockPay (y : FVec F S128x2048 .f32) (j : Fin 32) : FVec F S1x128x64 .f32 :=
  shapeCast S1x128x64 (extractStridedSlice S128x64 ![0, 64 * j.val] y (slices_block j)) shapeCasts_S128x64_S1x128x64

section Steps

variable (arg0 : Memref sig .tc .vmem S128x4096 .f32) (harg0 : arg0.IsWhole) (arg1 : Memref sig .tc .vmem S4096x2048 .f32) (harg1 : arg1.IsWhole)
  (arg2 : Memref sig .tc .vmem S4096x64 .f32) (harg2 : arg2.IsWhole) (arg3 : Memref sig .tc .vmem S32x128x64 .f32) (harg3 : arg3.IsWhole)
  (arg4 : Memref sig .tc .vmem S8x128 .f32) (harg4 : arg4.IsWhole) (arg5 : Memref sig .tc .vmem S32x8x128 .f32) (harg5 : arg5.IsWhole)
  (arg6 arg7 arg8 arg9 : DmaSems sig S32) (d0 : Dev nD)

/-- The rows of the result buffer a device's block lands in. -/
abbrev rowsOf (off : Fin 2 → Nat) (h : ∀ a, off a + S128x64.size a ≤ S4096x64.size a) : Memref sig .tc .vmem S128x64 .f32 :=
  arg2.slice (Rect.unit (s := S4096x64) off S128x64.size h) (fun _ => rfl)
/-- A column block of the product. -/
abbrev slabOf (off : Fin 3 → Nat) (h : ∀ a, off a + S1x128x64.size a ≤ S32x128x64.size a) : Memref sig .tc .vmem S128x64 .f32 :=
  (arg3.slice (Rect.unit (s := S32x128x64) off S1x128x64.size h) (fun _ => rfl)).squeeze S128x64 squeezes_S1x128x64_S128x64
/-- The place of one device's largest magnitude. -/
abbrev maxOf (off : Fin 3 → Nat) (h : ∀ a, off a + S1x8x128.size a ≤ S32x8x128.size a) : Memref sig .tc .vmem S8x128 .f32 :=
  (arg5.slice (Rect.unit (s := S32x8x128) off S1x8x128.size h) (fun _ => rfl)).squeeze S8x128 squeezes_S1x8x128_S8x128
/-- One semaphore of an array of 32. -/
abbrev semOf (a : DmaSems sig S32) (off : Fin 1 → Nat) (h : ∀ x, off x + S1.size x ≤ S32.size x) : DmaSem sig :=
  ((a.slice (Rect.unit (s := S32) off S1.size h)).squeeze S_ squeezes_S1_S_).sem

/-- A signal to the device at hop `r`. -/
def sigStep (r : Fin 31) : P F PUnit :=
  semSignalWord (⟨devAt d0 (dist r), devAt_lt d0 r⟩ : Dev nD) (SemArray.scalar (sig.barrier 0 rfl) : Sems sig S_).sem 1#32

/-- Column block `j` of the product stored. -/
def storeStep (y : FVec F S128x2048 .f32) (j : Fin 32) : P F PUnit := do
  let _v ← Prog.lift (.load arg3 (Rect.unit (s := S32x128x64) ![j.val, 0, 0] S1x128x64.size (inb_slab j)).toLoadRect (View.loadsAt_vmem h_S1x128x64))
  Prog.lift (.store arg3 (Rect.unit (s := S32x128x64) ![j.val, 0, 0] S1x128x64.size (inb_slab j)) (blockPay y j) Finset.univ (View.stores_vmem_bits_univ h_S1x128x64 rfl) (.inl rfl))

/-- The column block of the device at hop `r` sent to it. -/
def sendBlock (r : Fin 31) : P F PUnit :=
  Prog.lift (.enqueueDma (slabOf arg3 (k0_off4 d0 (dist r)) (k0_off4_inb d0 r)) (.remote (Dev.tc (⟨devAt d0 (dist r), devAt_lt d0 r⟩ : Dev nD))
    (rowsOf arg2 (k0_off3 d0) (k0_off3_inb d0)) (.dma (semOf arg6 (k0_off1 d0 (dist r)) (k0_off1_inb d0 r)))) (.dma (semOf arg7 (k0_off2 d0) (k0_off2_inb d0)))
    ((View.wordExact_bits rfl).reshape _ _) (View.wordExact_bits rfl) ⟨⟨rfl, Or.inl rfl⟩, trivial⟩)

include harg4 in
/-- The own largest magnitude sent to the device at hop `r`. -/
def sendMax (r : Fin 31) : P F PUnit :=
  Prog.lift (.enqueueDma arg4 (.remote (Dev.tc (⟨devAt d0 (dist r), devAt_lt d0 r⟩ : Dev nD))
    (maxOf arg5 (k0_off5 d0) (k0_off5_inb d0)) (.dma (semOf arg8 (k0_off1 d0 (dist r)) (k0_off1_inb d0 r)))) (.dma (semOf arg9 (k0_off2 d0) (k0_off2_inb d0)))
    harg4.wordExact ((View.wordExact_bits rfl).reshape _ _) ⟨⟨rfl, Or.inl rfl⟩, trivial⟩)

/-- The two transfers of hop `r`. -/
def sendStep (r : Fin 31) : P F PUnit := do
  sendBlock arg2 arg3 arg6 arg7 d0 r
  sendMax arg4 harg4 arg5 arg8 arg9 d0 r

/-- The wait for the largest magnitude of the device at hop `r`. -/
def maxWait (r : Fin 31) : P F PUnit :=
  Prog.lift (.waitDma2 (semOf arg9 (k0_off1 d0 (dist r)) (k0_off1_inb d0 r)) arg4 (maxOf arg5 (k0_off9 d0 (dist r)) (k0_off9_inb d0 r))
    harg4.wordExact ((View.wordExact_bits rfl).reshape _ _))

/-- The wait for the rows of the device at hop `r`. -/
def blockWait (r : Fin 31) : P F PUnit :=
  Prog.lift (.waitDma2 (semOf arg7 (k0_off1 d0 (dist r)) (k0_off1_inb d0 r)) (slabOf arg3 ![0, 0, 0] inb_S32x128x64_S1x128x64_0_0_0)
    (rowsOf arg2 (k0_off10 d0 (dist r)) (k0_off10_inb d0 r)) ((View.wordExact_bits rfl).reshape _ _) (View.wordExact_bits rfl))

/-- The waits for the two departures of hop `r`. -/
def departStep (r : Fin 31) : P F PUnit := do
  Prog.lift (.waitDma2 (semOf arg6 (k0_off1 d0 (dist r)) (k0_off1_inb d0 r)) (rowsOf arg2 (k0_off3 d0) (k0_off3_inb d0))
    (slabOf arg3 (k0_off4 d0 (dist r)) (k0_off4_inb d0 r)) (View.wordExact_bits rfl) ((View.wordExact_bits rfl).reshape _ _))
  Prog.lift (.waitDma2 (semOf arg8 (k0_off1 d0 (dist r)) (k0_off1_inb d0 r)) (maxOf arg5 (k0_off5 d0) (k0_off5_inb d0)) arg4
    ((View.wordExact_bits rfl).reshape _ _) harg4.wordExact)

/-- The own largest magnitude stored. -/
def maxStore (y : FVec F S128x2048 .f32) : P F PUnit := do
  let _v ← Prog.lift (.load arg4 (Rect.unit (s := S8x128) ![0, 0] S8x128.size inb_S8x128_S8x128_0_0).toLoadRect (View.loadsAt_vmem h_S8x128))
  Prog.lift (.store arg4 (Rect.unit (s := S8x128) ![0, 0] S8x128.size inb_S8x128_S8x128_0_0) (k0_pay36 y) Finset.univ (View.stores_vmem_bits_univ h_S8x128 rfl) (.inl rfl))

/-- The own block and the own largest magnitude put in their places. -/
def ownStep : P F PUnit := do
  let v1449 : Vec F S1x128x64 .f32 ← Prog.lift (.load arg3 (Rect.unit (s := S32x128x64) (k0_off6 d0) S1x128x64.size (k0_off6_inb d0)).toLoadRect (View.loadsAt_vmem h_S1x128x64))
  let _v ← Prog.lift (.load arg2 (Rect.unit (s := S4096x64) (k0_off7 d0) S128x64.size (k0_off7_inb d0)).toLoadRect (View.loadsAt_vmem h_S128x64))
  Prog.lift (.store arg2 (Rect.unit (s := S4096x64) (k0_off7 d0) S128x64.size (k0_off7_inb d0)) (k0_pay37 v1449) Finset.univ (View.stores_vmem_bits_univ h_S128x64 rfl) (.inl rfl))
  let v1454 : Vec F S8x128 .f32 ← Prog.lift (.load arg4 (Rect.unit (s := S8x128) ![0, 0] S8x128.size inb_S8x128_S8x128_0_0).toLoadRect (View.loadsAt_vmem h_S8x128))
  let _v ← Prog.lift (.load arg5 (Rect.unit (s := S32x8x128) (k0_off8 d0) S1x8x128.size (k0_off8_inb d0)).toLoadRect (View.loadsAt_vmem h_S1x8x128))
  Prog.lift (.store arg5 (Rect.unit (s := S32x8x128) (k0_off8 d0) S1x8x128.size (k0_off8_inb d0)) (k0_pay38 v1454) Finset.univ (View.stores_vmem_bits_univ h_S1x8x128 rfl) (.inl rfl))

/-- The result rescaled in place. -/
def quantStep : P F PUnit := do
  let v2576 : Vec F S32x8x128 .f32 ← Prog.lift (.load arg5 (Rect.unit (s := S32x8x128) ![0, 0, 0] S32x8x128.size inb_S32x8x128_S32x8x128_0_0_0).toLoadRect (View.loadsAt_vmem h_S32x8x128))
  let v2582 : Vec F S4096x64 .f32 ← Prog.lift (.load arg2 (Rect.unit (s := S4096x64) ![0, 0] S4096x64.size inb_S4096x64_S4096x64_0_0).toLoadRect (View.loadsAt_vmem h_S4096x64))
  let _v ← Prog.lift (.load arg2 (Rect.unit (s := S4096x64) ![0, 0] S4096x64.size inb_S4096x64_S4096x64_0_0).toLoadRect (View.loadsAt_vmem h_S4096x64))
  Prog.lift (.store arg2 (Rect.unit (s := S4096x64) ![0, 0] S4096x64.size inb_S4096x64_S4096x64_0_0) (k0_pay39 v2576 v2582) Finset.univ (View.stores_vmem_bits_univ h_S4096x64 rfl) (.inl rfl))

/-- The whole body. -/
def body : P F PUnit := do
  let d0 : Dev nD ← Prog.lift .deviceId
  loop (sigStep d0) hops
  semWaitWord (SemArray.scalar (sig.barrier 0 rfl) : Sems sig S_).sem 31#32
  let v407 : Vec F S128x4096 .f32 ← Prog.lift (.load arg0 (Rect.unit (s := S128x4096) ![0, 0] S128x4096.size inb_S128x4096_S128x4096_0_0).toLoadRect (View.loadsAt_vmem h_S128x4096))
  let v409 : Vec F S4096x2048 .f32 ← Prog.lift (.load arg1 (Rect.unit (s := S4096x2048) ![0, 0] S4096x2048.size inb_S4096x2048_S4096x2048_0_0).toLoadRect (View.loadsAt_vmem h_S4096x2048))
  loop (storeStep arg3 (k0_pay1 v407 v409)) blocks
  maxStore arg4 (k0_pay1 v407 v409)
  loop (sendStep arg2 arg3 arg4 harg4 arg5 arg6 arg7 arg8 arg9 d0) hops
  ownStep arg2 arg3 arg4 arg5 d0
  loop (maxWait arg4 harg4 arg5 arg9 d0) hops
  loop (blockWait arg2 arg3 arg7 d0) hops
  quantStep arg2 arg5
  loop (departStep arg2 arg3 arg4 harg4 arg5 arg6 arg8 d0) hops

end Steps

set_option maxRecDepth 65536 in
set_option maxHeartbeats 4000000 in
/-- The printed body is the program of loops. -/
theorem cc0_body_eq (arg0 : Memref sig .tc .vmem S128x4096 .f32) (harg0 : arg0.IsWhole) (arg1 : Memref sig .tc .vmem S4096x2048 .f32) (harg1 : arg1.IsWhole)
    (arg2 : Memref sig .tc .vmem S4096x64 .f32) (harg2 : arg2.IsWhole) (arg3 : Memref sig .tc .vmem S32x128x64 .f32) (harg3 : arg3.IsWhole)
    (arg4 : Memref sig .tc .vmem S8x128 .f32) (harg4 : arg4.IsWhole) (arg5 : Memref sig .tc .vmem S32x8x128 .f32) (harg5 : arg5.IsWhole)
    (arg6 arg7 arg8 arg9 : DmaSems sig S32) :
    cc0_body (F := F) arg0 harg0 arg1 harg1 arg2 harg2 arg3 harg3 arg4 harg4 arg5 harg5 arg6 arg7 arg8 arg9
      = body arg0 arg1 arg2 arg3 arg4 harg4 arg5 arg6 arg7 arg8 arg9 := rfl

end Cert.KernelIdeal.Run

end
-- ==== Proof.Steps.lean ====
/-
# The body's steps at the device a hop names

Each step of Proof/Body.lean names its device and its places by the kernel's words. Here each is the same step at the
device `tgt c r` itself: the slab, the rows and the semaphores are those of a device of the mesh, and no word is left.
-/
module

public import proofs.«01_k».proof.Proof.Body

@[expose] public section

noncomputable section

namespace Cert.KernelIdeal.Run

open Idealize.ShloMosaic Idealize.SL.Sem
open Cert.KernelIdeal Cert.KernelIdeal.Gen

variable {F : FTy → Type} [FloatOps F]

/-! ## The device at a hop -/

/-- The device `1 + r` after `c` on the ring of 32. -/
def tgt (c : Dev nD) (r : Fin 31) : Dev nD := ⟨(c.val + 1 + r.val) % 32, Nat.mod_lt _ (by decide)⟩
/-- The device `1 + r` before `c`. -/
def src (c : Dev nD) (r : Fin 31) : Dev nD := ⟨(c.val + 31 - r.val) % 32, Nat.mod_lt _ (by decide)⟩
/-- The hop leading back. -/
def back (r : Fin 31) : Fin 31 := ⟨30 - r.val, by omega⟩

theorem tgt_src : ∀ (c : Dev nD) (r : Fin 31), tgt (src c r) r = c := by decide +kernel
theorem src_tgt : ∀ (c : Dev nD) (r : Fin 31), src (tgt c r) r = c := by decide +kernel
theorem tgt_back : ∀ (c : Dev nD) (r : Fin 31), tgt (tgt c r) (back r) = c := by decide +kernel
theorem tgt_ne : ∀ (c : Dev nD) (r : Fin 31), tgt c r ≠ c := by decide +kernel
theorem tgt_inj (c : Dev nD) : Function.Injective (tgt c) := by revert c; decide +kernel
theorem exists_tgt : ∀ (c t : Dev nD), t ≠ c → ∃ r, tgt c r = t := by decide +kernel

theorem devAt_tgt (c : Dev nD) (r : Fin 31) : (⟨devAt c (dist r), devAt_lt c r⟩ : Dev nD) = tgt c r := Fin.ext (devAt_eq c r)

/-! ## Places -/

theorem inb_rows (p : Dev nD) : ∀ a, (![128 * p.val, 0] : Fin 2 → Nat) a + S128x64.size a ≤ S4096x64.size a := by revert p; decide +kernel
theorem inb_max (p : Dev nD) : ∀ a, (![p.val, 0, 0] : Fin 3 → Nat) a + S1x8x128.size a ≤ S32x8x128.size a := by revert p; decide +kernel
theorem inb_sem (p : Dev nD) : ∀ a, (![p.val] : Fin 1 → Nat) a + S1.size a ≤ S32.size a := by revert p; decide +kernel

abbrev xM : Memref sig .tc .vmem S128x4096 .f32 := Memref.whole cc0_stg0_0
abbrev wM : Memref sig .tc .vmem S4096x2048 .f32 := Memref.whole cc0_stg1_0
abbrev oM : Memref sig .tc .vmem S4096x64 .f32 := Memref.whole cc0_stg2_0
abbrev yM : Memref sig .tc .vmem S32x128x64 .f32 := Memref.whole cc0_scratch0
abbrev aM : Memref sig .tc .vmem S8x128 .f32 := Memref.whole cc0_scratch1
abbrev gM : Memref sig .tc .vmem S32x8x128 .f32 := Memref.whole cc0_scratch2

/-- Device `p`'s rows of the result, column block `p` of the product, the place of device `p`'s largest magnitude. -/
abbrev rowR (p : Dev nD) : Rect S4096x64 := Rect.unit (s := S4096x64) ![128 * p.val, 0] S128x64.size (inb_rows p)
abbrev slabR (p : Dev nD) : Rect S32x128x64 := Rect.unit (s := S32x128x64) ![p.val, 0, 0] S1x128x64.size (inb_slab p)
abbrev maxR (p : Dev nD) : Rect S32x8x128 := Rect.unit (s := S32x8x128) ![p.val, 0, 0] S1x8x128.size (inb_max p)
abbrev rowM (p : Dev nD) : Memref sig .tc .vmem S128x64 .f32 := oM.slice (rowR p) (fun _ => rfl)
abbrev slabM (p : Dev nD) : Memref sig .tc .vmem S1x128x64 .f32 := yM.slice (slabR p) (fun _ => rfl)
abbrev maxM (p : Dev nD) : Memref sig .tc .vmem S1x8x128 .f32 := gM.slice (maxR p) (fun _ => rfl)
abbrev slabQ (p : Dev nD) : Memref sig .tc .vmem S128x64 .f32 := (slabM p).squeeze S128x64 squeezes_S1x128x64_S128x64
abbrev maxQ (p : Dev nD) : Memref sig .tc .vmem S8x128 .f32 := (maxM p).squeeze S8x128 squeezes_S1x8x128_S8x128

/-- The DMA semaphores: kind 0 the blocks' departures, 1 their arrivals, 2 the magnitudes' departures, 3 their arrivals. -/
def dsem (k : Fin 4) (p : Dev nD) : DmaSem sig := (⟨3 + (p.val + 32 * k.val), by have := k.isLt; have h : p.val < 32 := p.isLt; change _ < 131; omega⟩ : Fin 131)

/-- Semaphore `p` of 32 consecutive ones. -/
theorem semOf_val (base : ℕ) (h : base + S32.numel ≤ 131) (p : Dev nD) :
    ((semOf (SemArray.consecutive base S32 h : DmaSems sig S32) ![p.val] (inb_sem p) : Fin 131) : ℕ) = base + p.val := by
  show base + (S32.rowMajor _).val = _
  rw [Shape.rowMajor_val_one]
  refine congrArg (base + ·) ?_
  generalize Shape.reshapeEquiv (squeezes_S1_S_).numel_eq (fun i : Fin 0 => i.elim0) = j
  have h0 : (j 0).val = 0 := Nat.lt_one_iff.mp (j 0).isLt
  show p.val + 1 * (j 0).val = p.val
  omega
theorem semOf0 (p : Dev nD) : semOf cc0_scratch3 ![p.val] (inb_sem p) = dsem 0 p := Fin.ext ((semOf_val 3 _ p).trans (show 3 + p.val = 3 + (p.val + 32 * 0) by omega))
theorem semOf1 (p : Dev nD) : semOf cc0_scratch4 ![p.val] (inb_sem p) = dsem 1 p := Fin.ext ((semOf_val 35 _ p).trans (show 35 + p.val = 3 + (p.val + 32 * 1) by omega))
theorem semOf2 (p : Dev nD) : semOf cc0_scratch5 ![p.val] (inb_sem p) = dsem 2 p := Fin.ext ((semOf_val 67 _ p).trans (show 67 + p.val = 3 + (p.val + 32 * 2) by omega))
theorem semOf3 (p : Dev nD) : semOf cc0_scratch6 ![p.val] (inb_sem p) = dsem 3 p := Fin.ext ((semOf_val 99 _ p).trans (show 99 + p.val = 3 + (p.val + 32 * 3) by omega))

theorem off1_eq : ∀ (c : Dev nD) (r : Fin 31), k0_off1 c (dist r) = ![(tgt c r).val] := by decide +kernel
theorem off4_eq : ∀ (c : Dev nD) (r : Fin 31), k0_off4 c (dist r) = ![(tgt c r).val, 0, 0] := by decide +kernel
theorem off9_eq : ∀ (c : Dev nD) (r : Fin 31), k0_off9 c (dist r) = ![(tgt c r).val, 0, 0] := by decide +kernel
theorem off10_eq : ∀ (c : Dev nD) (r : Fin 31), k0_off10 c (dist r) = ![128 * (tgt c r).val, 0] := by decide +kernel

theorem semOf_congr (a : DmaSems sig S32) {off off' : Fin 1 → Nat} (e : off = off') (h : ∀ x, off x + S1.size x ≤ S32.size x)
    (h' : ∀ x, off' x + S1.size x ≤ S32.size x) : semOf a off h = semOf a off' h' := by subst e; rfl

theorem sem0 (c : Dev nD) (r : Fin 31) : semOf cc0_scratch3 (k0_off1 c (dist r)) (k0_off1_inb c r) = dsem 0 (tgt c r) :=
  (semOf_congr _ (off1_eq c r) _ (inb_sem _)).trans (semOf0 _)
theorem sem1 (c : Dev nD) (r : Fin 31) : semOf cc0_scratch4 (k0_off1 c (dist r)) (k0_off1_inb c r) = dsem 1 (tgt c r) :=
  (semOf_congr _ (off1_eq c r) _ (inb_sem _)).trans (semOf1 _)
theorem sem2 (c : Dev nD) (r : Fin 31) : semOf cc0_scratch5 (k0_off1 c (dist r)) (k0_off1_inb c r) = dsem 2 (tgt c r) :=
  (semOf_congr _ (off1_eq c r) _ (inb_sem _)).trans (semOf2 _)
theorem sem3 (c : Dev nD) (r : Fin 31) : semOf cc0_scratch6 (k0_off1 c (dist r)) (k0_off1_inb c r) = dsem 3 (tgt c r) :=
  (semOf_congr _ (off1_eq c r) _ (inb_sem _)).trans (semOf3 _)
theorem sem1' (c : Dev nD) : semOf cc0_scratch4 (k0_off2 c) (k0_off2_inb c) = dsem 1 c :=
  (semOf_congr _ (k0_off2_eq c) _ (inb_sem _)).trans (semOf1 _)
theorem sem3' (c : Dev nD) : semOf cc0_scratch6 (k0_off2 c) (k0_off2_inb c) = dsem 3 c :=
  (semOf_congr _ (k0_off2_eq c) _ (inb_sem _)).trans (semOf3 _)

/-! ## The steps -/

/-- The barrier semaphore. -/
abbrev barS : Sem sig := (SemArray.scalar (sig.barrier 0 rfl) : Sems sig S_).sem

theorem sigStep_eq (c : Dev nD) (r : Fin 31) : sigStep (F := F) c r = semSignalWord (tgt c r) barS 1#32 := by
  unfold sigStep; rw [devAt_tgt]

/-- The column block of device `t` sent from `c` into `c`'s rows of `t`'s result. -/
def sendBlock' (c t : Dev nD) : P F PUnit :=
  Prog.lift (.enqueueDma (slabQ t) (.remote (Dev.tc t) (rowM c) (.dma (dsem 0 t))) (.dma (dsem 1 c))
    ((View.wordExact_bits rfl).reshape _ _) (View.wordExact_bits rfl) ⟨⟨rfl, Or.inl rfl⟩, trivial⟩)

theorem sendBlock_aux (c : Dev nD) {n t : Dev nD} (hn : n = t) {o4 : Fin 3 → Nat} (e4 : o4 = ![t.val, 0, 0]) (i4 : ∀ a, o4 a + S1x128x64.size a ≤ S32x128x64.size a)
    {o3 : Fin 2 → Nat} (e3 : o3 = ![128 * c.val, 0]) (i3 : ∀ a, o3 a + S128x64.size a ≤ S4096x64.size a)
    {s0 s1 : DmaSem sig} (e0 : s0 = dsem 0 t) (e1 : s1 = dsem 1 c) :
    (Prog.lift (.enqueueDma (slabOf yM o4 i4) (.remote (Dev.tc n) (rowsOf oM o3 i3) (.dma s0)) (.dma s1)
      ((View.wordExact_bits rfl).reshape _ _) (View.wordExact_bits rfl) ⟨⟨rfl, Or.inl rfl⟩, trivial⟩) : P F PUnit) = sendBlock' c t := by
  subst hn e4 e3 e0 e1; rfl

theorem sendBlock_eq (c : Dev nD) (r : Fin 31) : sendBlock (F := F) oM yM cc0_scratch3 cc0_scratch4 c r = sendBlock' c (tgt c r) :=
  sendBlock_aux c (devAt_tgt c r) (off4_eq c r) _ (k0_off3_eq c) _ (sem0 c r) (sem1' c)

/-- `c`'s largest magnitude sent into its place on `t`. -/
def sendMax' (c t : Dev nD) : P F PUnit :=
  Prog.lift (.enqueueDma aM (.remote (Dev.tc t) (maxQ c) (.dma (dsem 2 t))) (.dma (dsem 3 c))
    (Memref.isWhole_whole _).wordExact ((View.wordExact_bits rfl).reshape _ _) ⟨⟨rfl, Or.inl rfl⟩, trivial⟩)

theorem sendMax_aux (c : Dev nD) {n t : Dev nD} (hn : n = t) {o5 : Fin 3 → Nat} (e5 : o5 = ![c.val, 0, 0]) (i5 : ∀ a, o5 a + S1x8x128.size a ≤ S32x8x128.size a)
    {s0 s1 : DmaSem sig} (e0 : s0 = dsem 2 t) (e1 : s1 = dsem 3 c) :
    (Prog.lift (.enqueueDma aM (.remote (Dev.tc n) (maxOf gM o5 i5) (.dma s0)) (.dma s1)
      (Memref.isWhole_whole _).wordExact ((View.wordExact_bits rfl).reshape _ _) ⟨⟨rfl, Or.inl rfl⟩, trivial⟩) : P F PUnit) = sendMax' c t := by
  subst hn e5 e0 e1; rfl

theorem sendMax_eq (c : Dev nD) (r : Fin 31) : sendMax (F := F) aM (Memref.isWhole_whole _) gM cc0_scratch5 cc0_scratch6 c r = sendMax' c (tgt c r) :=
  sendMax_aux c (devAt_tgt c r) (k0_off5_eq c) _ (sem2 c r) (sem3' c)

/-- The wait for `t`'s largest magnitude, -/
def maxWait' (t : Dev nD) : P F PUnit :=
  Prog.lift (.waitDma2 (dsem 3 t) aM (maxQ t) (Memref.isWhole_whole _).wordExact ((View.wordExact_bits rfl).reshape _ _))
theorem maxWait_aux {t : Dev nD} {o : Fin 3 → Nat} (e : o = ![t.val, 0, 0]) (i : ∀ a, o a + S1x8x128.size a ≤ S32x8x128.size a) {s : DmaSem sig} (es : s = dsem 3 t) :
    (Prog.lift (.waitDma2 s aM (maxOf gM o i) (Memref.isWhole_whole _).wordExact ((View.wordExact_bits rfl).reshape _ _)) : P F PUnit) = maxWait' t := by
  subst e es; rfl
theorem maxWait_eq (c : Dev nD) (r : Fin 31) : maxWait (F := F) aM (Memref.isWhole_whole _) gM cc0_scratch6 c r = maxWait' (tgt c r) :=
  maxWait_aux (off9_eq c r) _ (sem3 c r)

/-- for `t`'s rows, -/
def blockWait' (t : Dev nD) : P F PUnit :=
  Prog.lift (.waitDma2 (dsem 1 t) (slabQ 0) (rowM t) ((View.wordExact_bits rfl).reshape _ _) (View.wordExact_bits rfl))
theorem blockWait_aux {t : Dev nD} {o : Fin 2 → Nat} (e : o = ![128 * t.val, 0]) (i : ∀ a, o a + S128x64.size a ≤ S4096x64.size a) {s : DmaSem sig} (es : s = dsem 1 t) :
    (Prog.lift (.waitDma2 s (slabOf yM ![0, 0, 0] inb_S32x128x64_S1x128x64_0_0_0) (rowsOf oM o i) ((View.wordExact_bits rfl).reshape _ _) (View.wordExact_bits rfl)) : P F PUnit)
      = blockWait' t := by
  subst e es; rfl
theorem blockWait_eq (c : Dev nD) (r : Fin 31) : blockWait (F := F) oM yM cc0_scratch4 c r = blockWait' (tgt c r) :=
  blockWait_aux (off10_eq c r) _ (sem1 c r)

/-- for the two departures to `t`. -/
def departStep' (c t : Dev nD) : P F PUnit := do
  Prog.lift (.waitDma2 (dsem 0 t) (rowM c) (slabQ t) (View.wordExact_bits rfl) ((View.wordExact_bits rfl).reshape _ _))
  Prog.lift (.waitDma2 (dsem 2 t) (maxQ c) aM ((View.wordExact_bits rfl).reshape _ _) (Memref.isWhole_whole _).wordExact)
theorem departStep_aux (c : Dev nD) {t : Dev nD} {o3 : Fin 2 → Nat} (e3 : o3 = ![128 * c.val, 0]) (i3 : ∀ a, o3 a + S128x64.size a ≤ S4096x64.size a)
    {o4 : Fin 3 → Nat} (e4 : o4 = ![t.val, 0, 0]) (i4 : ∀ a, o4 a + S1x128x64.size a ≤ S32x128x64.size a)
    {o5 : Fin 3 → Nat} (e5 : o5 = ![c.val, 0, 0]) (i5 : ∀ a, o5 a + S1x8x128.size a ≤ S32x8x128.size a)
    {s s' : DmaSem sig} (es : s = dsem 0 t) (es' : s' = dsem 2 t) :
    (do Prog.lift (.waitDma2 s (rowsOf oM o3 i3) (slabOf yM o4 i4) (View.wordExact_bits rfl) ((View.wordExact_bits rfl).reshape _ _))
        Prog.lift (.waitDma2 s' (maxOf gM o5 i5) aM ((View.wordExact_bits rfl).reshape _ _) (Memref.isWhole_whole _).wordExact) : P F PUnit) = departStep' c t := by
  subst e3 e4 e5 es es'; rfl
theorem departStep_eq (c : Dev nD) (r : Fin 31) :
    departStep (F := F) oM yM aM (Memref.isWhole_whole _) gM cc0_scratch3 cc0_scratch5 c r = departStep' c (tgt c r) :=
  departStep_aux c (k0_off3_eq c) _ (off4_eq c r) _ (k0_off5_eq c) _ (sem0 c r) (sem2 c r)

/-- The own block and the own largest magnitude put in their places. -/
def ownStep' (c : Dev nD) : P F PUnit := do
  let v1449 : Vec F S1x128x64 .f32 ← Prog.lift (.load yM (slabR c).toLoadRect (View.loadsAt_vmem h_S1x128x64))
  let _v ← Prog.lift (.load oM (rowR c).toLoadRect (View.loadsAt_vmem h_S128x64))
  Prog.lift (.store oM (rowR c) (k0_pay37 v1449) Finset.univ (View.stores_vmem_bits_univ h_S128x64 rfl) (.inl rfl))
  let v1454 : Vec F S8x128 .f32 ← Prog.lift (.load aM (Rect.unit (s := S8x128) ![0, 0] S8x128.size inb_S8x128_S8x128_0_0).toLoadRect (View.loadsAt_vmem h_S8x128))
  let _v ← Prog.lift (.load gM (maxR c).toLoadRect (View.loadsAt_vmem h_S1x8x128))
  Prog.lift (.store gM (maxR c) (k0_pay38 v1454) Finset.univ (View.stores_vmem_bits_univ h_S1x8x128 rfl) (.inl rfl))
theorem ownStep_aux (c : Dev nD) {o6 o8 : Fin 3 → Nat} {o7 : Fin 2 → Nat} (e6 : o6 = ![c.val, 0, 0]) (e7 : o7 = ![128 * c.val, 0]) (e8 : o8 = ![c.val, 0, 0])
    (i6 : ∀ a, o6 a + S1x128x64.size a ≤ S32x128x64.size a) (i7 : ∀ a, o7 a + S128x64.size a ≤ S4096x64.size a) (i8 : ∀ a, o8 a + S1x8x128.size a ≤ S32x8x128.size a) :
    (do let v1449 : Vec F S1x128x64 .f32 ← Prog.lift (.load yM (Rect.unit (s := S32x128x64) o6 S1x128x64.size i6).toLoadRect (View.loadsAt_vmem h_S1x128x64))
        let _v ← Prog.lift (.load oM (Rect.unit (s := S4096x64) o7 S128x64.size i7).toLoadRect (View.loadsAt_vmem h_S128x64))
        Prog.lift (.store oM (Rect.unit (s := S4096x64) o7 S128x64.size i7) (k0_pay37 v1449) Finset.univ (View.stores_vmem_bits_univ h_S128x64 rfl) (.inl rfl))
        let v1454 : Vec F S8x128 .f32 ← Prog.lift (.load aM (Rect.unit (s := S8x128) ![0, 0] S8x128.size inb_S8x128_S8x128_0_0).toLoadRect (View.loadsAt_vmem h_S8x128))
        let _v ← Prog.lift (.load gM (Rect.unit (s := S32x8x128) o8 S1x8x128.size i8).toLoadRect (View.loadsAt_vmem h_S1x8x128))
        Prog.lift (.store gM (Rect.unit (s := S32x8x128) o8 S1x8x128.size i8) (k0_pay38 v1454) Finset.univ (View.stores_vmem_bits_univ h_S1x8x128 rfl) (.inl rfl)) : P F PUnit)
      = ownStep' c := by
  subst e6 e7 e8; rfl
theorem ownStep_eq (c : Dev nD) : ownStep (F := F) oM yM aM gM c = ownStep' c :=
  ownStep_aux c (k0_off6_eq c) (k0_off7_eq c) (k0_off8_eq c) _ _ _

/-- The body of device `c` after its id is known. -/
def bodyAt (c : Dev nD) : P F PUnit := do
  loop (fun r => semSignalWord (tgt c r) barS 1#32) hops
  semWaitWord barS 31#32
  let v407 : Vec F S128x4096 .f32 ← Prog.lift (.load xM (Rect.unit (s := S128x4096) ![0, 0] S128x4096.size inb_S128x4096_S128x4096_0_0).toLoadRect (View.loadsAt_vmem h_S128x4096))
  let v409 : Vec F S4096x2048 .f32 ← Prog.lift (.load wM (Rect.unit (s := S4096x2048) ![0, 0] S4096x2048.size inb_S4096x2048_S4096x2048_0_0).toLoadRect (View.loadsAt_vmem h_S4096x2048))
  loop (storeStep yM (k0_pay1 v407 v409)) blocks
  maxStore aM (k0_pay1 v407 v409)
  loop (fun r => do sendBlock' c (tgt c r); sendMax' c (tgt c r)) hops
  ownStep' c
  loop (fun r => maxWait' (tgt c r)) hops
  loop (fun r => blockWait' (tgt c r)) hops
  quantStep oM gM
  loop (fun r => departStep' c (tgt c r)) hops

theorem body_eq : cc0_body (F := F) xM (Memref.isWhole_whole _) wM (Memref.isWhole_whole _) oM (Memref.isWhole_whole _) yM (Memref.isWhole_whole _)
      aM (Memref.isWhole_whole _) gM (Memref.isWhole_whole _) cc0_scratch3 cc0_scratch4 cc0_scratch5 cc0_scratch6
    = Prog.lift .deviceId >>= fun c => bodyAt c := by
  rw [cc0_body_eq]; unfold body
  refine congrArg _ (funext fun c => ?_)
  have h1 : sigStep (F := F) c = fun r => semSignalWord (tgt c r) barS 1#32 := funext fun r => sigStep_eq c r
  have h2 : sendStep (F := F) oM yM aM (Memref.isWhole_whole _) gM cc0_scratch3 cc0_scratch4 cc0_scratch5 cc0_scratch6 c
      = (fun r => (do sendBlock' c (tgt c r); sendMax' c (tgt c r))) := funext fun r => by unfold sendStep; rw [sendBlock_eq, sendMax_eq]
  have h3 : maxWait (F := F) aM (Memref.isWhole_whole _) gM cc0_scratch6 c = fun r => maxWait' (tgt c r) := funext fun r => maxWait_eq c r
  have h4 : blockWait (F := F) oM yM cc0_scratch4 c = fun r => blockWait' (tgt c r) := funext fun r => blockWait_eq c r
  have h5 : departStep (F := F) oM yM aM (Memref.isWhole_whole _) gM cc0_scratch3 cc0_scratch5 c = fun r => departStep' c (tgt c r) :=
    funext fun r => departStep_eq c r
  rw [h1, h2, h3, h4, h5, ownStep_eq]; rfl

end Cert.KernelIdeal.Run

end
-- ==== Proof.Own.lean ====
/-
# The loop rule, and the buffers piece by piece

The rule for a loop whose every step turns its own resources `A i` into `B i` and threads a state `S`; the product's
buffer held by column blocks, the result by devices' rows, the gathered magnitudes by devices' places; and the magnitude
held in the 31 shares its transfers read and the share kept for the core itself.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, and the protocol's with a duty named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

instance nonempty_elt (e : EltTy) : Nonempty (Elt F e) := by
  cases e <;> first | exact ⟨(0 : BitVec _)⟩ | exact ⟨(FloatOps.ofBits _ 0 : F _)⟩

/-- A program of device `c`'s core run to `Q`. -/
abbrev WP (c : Dev nD) {α : Type} (p : P F α) (Q : α → sProp 𝕄) : sProp 𝕄 :=
  wp frame (wpE (defs₀ (F := F)) Variants.none (c : Thread nD τ) none) Set.univ p Q

/-! ## Lists of resources -/

section Lists

variable {ι : Type}

/-- A resource for each entry of a list. -/
def sepL (A : ι → sProp 𝕄) : List ι → sProp 𝕄
  | [] => iprop(emp)
  | i :: is => iprop(A i ∗ sepL A is)

theorem sepL_toFinset [DecidableEq ι] (A : ι → sProp 𝕄) : ∀ l : List ι, l.Nodup → bigSep l.toFinset A = sepL A l
  | [], _ => rfl
  | i :: is, h => by
    rw [List.toFinset_cons, bigSep_insert (by rw [List.mem_toFinset]; exact (List.nodup_cons.mp h).1), sepL_toFinset A is (List.nodup_cons.mp h).2]; rfl

theorem sepL_hops (A : Fin 31 → sProp 𝕄) : sepL A hops = bigSep Finset.univ A := by
  rw [← sepL_toFinset A hops (by decide)]; exact congrArg (bigSep · A) (by decide)
theorem sepL_blocks (A : Fin 32 → sProp 𝕄) : sepL A blocks = bigSep Finset.univ A := by
  rw [← sepL_toFinset A blocks (by decide)]; exact congrArg (bigSep · A) (by decide)

/-- A resource for every device is `c`'s own and one for each hop. -/
theorem bigSep_tgt (c : Dev nD) (A : Dev nD → sProp 𝕄) : bigSep (Finset.univ.erase c) A = bigSep Finset.univ fun r : Fin 31 => A (tgt c r) := by
  refine (congrArg (bigSep · A) (Finset.ext fun t => ?_)).trans (bigSep_map (s := Finset.univ) ⟨tgt c, tgt_inj c⟩)
  simp only [Finset.mem_erase, Finset.mem_univ, and_true, Finset.mem_map, true_and, Function.Embedding.coeFn_mk]
  exact ⟨exists_tgt c t, fun ⟨r, h⟩ => h ▸ tgt_ne c r⟩
theorem bigSep_dev (c : Dev nD) (A : Dev nD → sProp 𝕄) : bigSep Finset.univ A = iprop(A c ∗ bigSep Finset.univ fun r : Fin 31 => A (tgt c r)) := by
  rw [← bigSep_tgt]; exact bigSep_erase (Finset.mem_univ c)

/-- The rule for a loop. -/
theorem wp_loop (c : Dev nD) (step : ι → P F PUnit) (A B : ι → sProp 𝕄) (S : List ι → sProp 𝕄)
    (h : ∀ i is, iprop(A i ∗ S (i :: is)) ⊢ WP c (step i) fun _ => iprop(B i ∗ S is)) :
    ∀ l : List ι, iprop(sepL A l ∗ S l) ⊢ WP c (loop step l) fun _ => iprop(sepL B l ∗ S [])
  | [] => fupd_intro (PROP := sProp 𝕄)
  | i :: is => by
    show iprop((A i ∗ sepL A is) ∗ S (i :: is)) ⊢ WP c (step i >>= fun _ => loop step is) fun _ => iprop((B i ∗ sepL B is) ∗ S [])
    unfold WP; rw [wp_bind]
    iintro ⟨⟨HA, HL⟩, HS⟩
    ihave H := (h i is) $$ [HA HS]
    · isplitl [HA] <;> iassumption
    iapply (wp_wand frame (wpE (defs₀ (F := F)) Variants.none (c : Thread nD τ) none) Set.univ) $$ H
    iintro %_ ⟨HB, HS⟩
    ihave H := (wp_loop c step A B S h is) $$ [HL HS]
    · isplitl [HL] <;> iassumption
    iapply (wp_wand frame (wpE (defs₀ (F := F)) Variants.none (c : Thread nD τ) none) Set.univ) $$ H
    iintro %_ ⟨HL, HS⟩
    isplitl [HB HL]
    · isplitl [HB] <;> iassumption
    iexact HS

end Lists

/-! ## The pieces cover their buffers -/

theorem slabR_emb (p : Dev nD) (j : (slabR p).shape.Idx) : ((slabR p).emb j 0).val = p.val := by
  rw [Rect.emb_apply]; have : (j 0).val < 1 := (j 0).isLt
  show p.val + 1 * (j 0).val = p.val; omega
theorem maxR_emb (p : Dev nD) (j : (maxR p).shape.Idx) : ((maxR p).emb j 0).val = p.val := by
  rw [Rect.emb_apply]; have : (j 0).val < 1 := (j 0).isLt
  show p.val + 1 * (j 0).val = p.val; omega
theorem rowR_emb (p : Dev nD) (j : (rowR p).shape.Idx) : ((rowR p).emb j 0).val = 128 * p.val + (j 0).val := by
  rw [Rect.emb_apply]; show 128 * p.val + 1 * (j 0).val = _; omega
theorem rowR_div (p : Dev nD) (j : (rowR p).shape.Idx) : ((rowR p).emb j 0).val / 128 = p.val := by
  rw [rowR_emb]; have : (j 0).val < 128 := (j 0).isLt; omega

theorem disj_of_key {s : Shape} {T : Type} (r : T → Rect s) (key : s.Idx → ℕ) (v : T → ℕ) (hv : Function.Injective v) (hk : ∀ t j, key ((r t).emb j) = v t)
    (t t' : T) (h : t ≠ t') : Disjoint (r t).set (r t').set := by
  rw [Finset.disjoint_left]; intro i hi hi'
  rw [← Rect.map_emb_univ, Finset.mem_map] at hi hi'
  obtain ⟨j, -, rfl⟩ := hi; obtain ⟨j', -, e⟩ := hi'
  exact h (hv (by rw [← hk t j, ← hk t' j', e]))

theorem slab_disj : ∀ t t' : Dev nD, t ≠ t' → Disjoint (slabR t).set (slabR t').set :=
  disj_of_key slabR (fun i => (i 0).val) (fun t => t.val) Fin.val_injective slabR_emb
theorem max_disj : ∀ t t' : Dev nD, t ≠ t' → Disjoint (maxR t).set (maxR t').set :=
  disj_of_key maxR (fun i => (i 0).val) (fun t => t.val) Fin.val_injective maxR_emb
theorem row_disj : ∀ t t' : Dev nD, t ≠ t' → Disjoint (rowR t).set (rowR t').set :=
  disj_of_key rowR (fun i => (i 0).val / 128) (fun t => t.val) Fin.val_injective rowR_div

theorem slab_cover : (Finset.univ : Finset (Dev nD)).biUnion (fun t => (slabR t).set) = Finset.univ := by
  refine Finset.eq_univ_iff_forall.mpr fun i => Finset.mem_biUnion.mpr ⟨⟨(i 0).val, (i 0).isLt⟩, Finset.mem_univ _, ?_⟩
  rw [← Rect.map_emb_univ, Finset.mem_map]
  refine ⟨(fun | 0 => ⟨0, by decide⟩ | 1 => i 1 | 2 => i 2 : S1x128x64.Idx), Finset.mem_univ _, funext fun a => Fin.ext ?_⟩
  rw [Rect.emb_apply]
  fin_cases a
  · show (i 0).val + 1 * 0 = (i 0).val; omega
  · show 0 + 1 * (i 1).val = (i 1).val; omega
  · show 0 + 1 * (i 2).val = (i 2).val; omega
theorem max_cover : (Finset.univ : Finset (Dev nD)).biUnion (fun t => (maxR t).set) = Finset.univ := by
  refine Finset.eq_univ_iff_forall.mpr fun i => Finset.mem_biUnion.mpr ⟨⟨(i 0).val, (i 0).isLt⟩, Finset.mem_univ _, ?_⟩
  rw [← Rect.map_emb_univ, Finset.mem_map]
  refine ⟨(fun | 0 => ⟨0, by decide⟩ | 1 => i 1 | 2 => i 2 : S1x8x128.Idx), Finset.mem_univ _, funext fun a => Fin.ext ?_⟩
  rw [Rect.emb_apply]
  fin_cases a
  · show (i 0).val + 1 * 0 = (i 0).val; omega
  · show 0 + 1 * (i 1).val = (i 1).val; omega
  · show 0 + 1 * (i 2).val = (i 2).val; omega
theorem row_cover : (Finset.univ : Finset (Dev nD)).biUnion (fun t => (rowR t).set) = Finset.univ := by
  refine Finset.eq_univ_iff_forall.mpr fun i => ?_
  have h0 : (i 0).val < 4096 := (i 0).isLt
  refine Finset.mem_biUnion.mpr ⟨⟨(i 0).val / 128, show _ < 32 by omega⟩, Finset.mem_univ _, ?_⟩
  rw [← Rect.map_emb_univ, Finset.mem_map]
  refine ⟨(fun | 0 => ⟨(i 0).val % 128, Nat.mod_lt _ (by decide)⟩ | 1 => i 1 : S128x64.Idx), Finset.mem_univ _, funext fun a => Fin.ext ?_⟩
  rw [Rect.emb_apply]
  fin_cases a
  · show 128 * ((i 0).val / 128) + 1 * ((i 0).val % 128) = (i 0).val; omega
  · show 0 + 1 * (i 1).val = (i 1).val; omega

/-! ## Squeezed pieces -/

/-- Owning a column block through its two-dimensional view is owning the block. -/
theorem owns_slabQ (c : Dev nD) (p : Dev nD) (q : PosShare TreeShare) (f : Buf (Elt F) ((slabM p).view.loc (c : Thread nD τ))) (X : FVec F S1x128x64 .f32)
    (h : (slabQ p).view.read (Elt F) f = shapeCast S128x64 X shapeCasts_S1x128x64_S128x64) : (slabM p).view.read (Elt F) f = X := by
  have h' : shapeCast S128x64 ((slabM p).view.read (Elt F) f) shapeCasts_S1x128x64_S128x64 = shapeCast S128x64 X shapeCasts_S1x128x64_S128x64 := h
  have := congrArg (fun v => shapeCast S1x128x64 v shapeCasts_S128x64_S1x128x64) h'
  simpa only [shapeCast_shapeCast] using this
theorem slabQ_set (p : Dev nD) : (slabQ p).view.set = (slabM p).view.set := View.set_reshape _ _
theorem maxQ_set (p : Dev nD) : (maxQ p).view.set = (maxM p).view.set := View.set_reshape _ _

end Cert.KernelIdeal.Run

end
-- ==== Proof.Protocol.lean ====
/-
# The protocol

Every device signals every other device's barrier and waits for their 31 signals; with its signal a device hands over its
own place for the other's rows and for the other's largest magnitude. Then it sends each other device a column block of its
product and its largest magnitude. A departure gives back what the transfer read, an arrival the place it wrote. One round
on every semaphore; the contents are stated for any products `Y`, one a device.
-/
module

public import proofs.«01_k».proof.Proof.Own

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Amounts and contents -/

/-- The credit of a column block, and of a magnitude. -/
def NB : ℕ := (rowM 0).view.dmaCredit
def NA : ℕ := aM.view.dmaCredit
theorem NB_pos : 0 < NB := View.dmaCredit_pos _ (by decide)
theorem NA_pos : 0 < NA := View.dmaCredit_pos _ (by decide)
theorem credit_row (p : Dev nD) : (rowM p).view.dmaCredit = NB := rfl
theorem credit_slab (p : Dev nD) : (slabQ p).view.dmaCredit = NB := rfl
theorem credit_max (p : Dev nD) : (maxQ p).view.dmaCredit = NA := rfl
theorem credit_amp : aM.view.dmaCredit = NA := rfl
/-- The credit of a transfer of kind `k`. -/
def amt (k : Fin 4) : ℕ := if k.val < 2 then NB else NA
theorem amt_pos (k : Fin 4) : 0 < amt k := by unfold amt; split; exacts [NB_pos, NA_pos]

/-- Column block `t` of a product. -/
def col (y : FVec F S128x2048 .f32) (t : Dev nD) : FVec F S128x64 .f32 := extractStridedSlice S128x64 ![0, 64 * t.val] y (slices_block t)
theorem blockPay_col (y : FVec F S128x2048 .f32) (t : Dev nD) : blockPay y t = shapeCast S1x128x64 (col y t) shapeCasts_S128x64_S1x128x64 := rfl
theorem cast_blockPay (y : FVec F S128x2048 .f32) (t : Dev nD) : shapeCast S128x64 (blockPay y t) shapeCasts_S1x128x64_S128x64 = col y t := by
  rw [blockPay_col, shapeCast_shapeCast]

/-- The hop of `c` that leads to `t`, which names the share of the magnitude the transfer to `t` reads. -/
def hopOf (c t : Dev nD) : ℕ := (t.val + 31 - c.val) % 32
theorem hopOf_tgt : ∀ (c : Dev nD) (r : Fin 31), hopOf c (tgt c r) = r.val := by decide +kernel

variable (Y : Dev nD → FVec F S128x2048 .f32)

/-- Device `s`'s rows of `c`'s result, holding the block of `s`'s product that `c` gathers; -/
def rowRes (c s : Dev nD) : sProp 𝕄 := owns (c : Thread nD τ) (rowM s) fullShare (col (Y s) c)
/-- the place of `s`'s largest magnitude on `c`; -/
def maxRes (c s : Dev nD) : sProp 𝕄 := owns (c : Thread nD τ) (maxM s) fullShare (k0_pay38 (k0_pay36 (Y s)))
/-- column block `t` of `c`'s product; -/
def slabRes (c t : Dev nD) : sProp 𝕄 := owns (c : Thread nD τ) (slabM t) fullShare (blockPay (Y c) t)
/-- the share of `c`'s largest magnitude that the transfer to `t` reads. -/
def ampRes (c t : Dev nD) : sProp 𝕄 := owns (c : Thread nD τ) aM (Transfers.shareTokN fullShare (hopOf c t)) (k0_pay36 (Y c))
/-- What `d`'s signal hands `c`: `d`'s places for `c`'s rows and for `c`'s largest magnitude. -/
def barPay (c d : Dev nD) : sProp 𝕄 :=
  iprop((∃ X, owns (d : Thread nD τ) (rowM c) fullShare X) ∗ (∃ X, owns (d : Thread nD τ) (maxM c) fullShare X))
/-- What a semaphore of kind `k` for the peer `p` hands `c`. -/
def dmaPay (c : Dev nD) (k : Fin 4) (p : Dev nD) : sProp 𝕄 :=
  match k with | 0 => slabRes Y c p | 1 => rowRes Y c p | 2 => ampRes Y c p | 3 => maxRes Y c p

instance barPay_storable (c d : Dev nD) : BI.Storable (upEmb : UEmb _ 𝕄) (barPay (F := F) c d) := by unfold barPay; infer_instance
instance dmaPay_storable (c : Dev nD) (k : Fin 4) (p : Dev nD) : BI.Storable (upEmb : UEmb _ 𝕄) (dmaPay Y c k p) := by
  unfold dmaPay rowRes maxRes slabRes ampRes; split <;> infer_instance

/-! ## Cells -/

abbrev barCell (c : Dev nD) : GSem nD τ sig := ((c : Thread nD τ), .reg barS)
abbrev dcell (c : Dev nD) (k : Fin 4) (p : Dev nD) : GSem nD τ sig := ((c : Thread nD τ), .dma (dsem k p))

/-- The kind and the peer of a DMA semaphore. -/
def kindOf (q : DmaSem sig) : Fin 4 := ⟨(q.val - 3) / 32, by have h : q.val < 131 := q.isLt; omega⟩
def peerOf (q : DmaSem sig) : Dev nD := ⟨(q.val - 3) % 32, Nat.mod_lt _ (by decide)⟩
theorem kindOf_dsem (k : Fin 4) (p : Dev nD) : kindOf (dsem k p) = k := by
  refine Fin.ext ?_; have h : p.val < 32 := p.isLt
  show (3 + (p.val + 32 * k.val) - 3) / 32 = k.val; omega
theorem peerOf_dsem (k : Fin 4) (p : Dev nD) : peerOf (dsem k p) = p := by
  refine Fin.ext ?_; have h : p.val < 32 := p.isLt
  show (3 + (p.val + 32 * k.val) - 3) % 32 = p.val; omega
theorem dsem_ge (k : Fin 4) (p : Dev nD) : 3 ≤ (dsem k p : Fin 131).val := Nat.le_add_right _ _
theorem dcell_inj {c c' : Dev nD} {k k' : Fin 4} {p p' : Dev nD} (h : dcell c k p = dcell c' k' p') : c = c' ∧ k = k' ∧ p = p' := by
  have h1 : c = c' := congrArg (fun g : GSem nD τ sig => g.1.1) h
  have h2 : dsem k p = dsem k' p' := SemLoc.dma.inj (congrArg Prod.snd h)
  exact ⟨h1, by rw [← kindOf_dsem k p, h2, kindOf_dsem], by rw [← peerOf_dsem k p, h2, peerOf_dsem]⟩
theorem barCell_inj {c c' : Dev nD} (h : barCell c = barCell c') : c = c' := congrArg (fun g : GSem nD τ sig => g.1.1) h

/-! ## The schedule -/

/-- One round on every semaphore: a barrier cell has a duty of one unit for each other device; a DMA cell for another
    device has that device's duty, of the transfer's credit; a DMA cell for the device itself has none. -/
def sch : Rounds.Schedule (GSem nD τ sig) (Dev nD) 𝕄 where
  duties g r := if r = 0 then
      match g.2 with | .reg _ => Finset.univ.erase g.1.1 | .dma q => if peerOf q = g.1.1 then ∅ else {peerOf q}
    else ∅
  unitless _ := False
  amount g _ _ := match g.2 with | .reg _ => 1 | .dma q => amt (kindOf q)
  payload g _ d := match g.2 with | .reg _ => barPay g.1.1 d | .dma q => dmaPay Y g.1.1 (kindOf q) (peerOf q)
  amount_pos g _ _ _ := by
    obtain ⟨t, s⟩ := g
    cases s
    · exact Nat.one_pos
    · exact amt_pos _

instance sch_payload_storable (g : GSem nD τ sig) (r : ℕ) (d : Dev nD) : BI.Storable (upEmb : UEmb _ 𝕄) ((sch Y).payload g r d) := by
  obtain ⟨t, s⟩ := g
  cases s
  · show BI.Storable upEmb (barPay t.1 d); infer_instance
  · show BI.Storable upEmb (dmaPay Y t.1 (kindOf _) (peerOf _)); infer_instance

section Tables
variable (c : Dev nD)

theorem duties_bar : (sch Y).duties (barCell c) 0 = Finset.univ.erase c := rfl
theorem duties_dma (k : Fin 4) {p : Dev nD} (h : p ≠ c) : (sch Y).duties (dcell c k p) 0 = {p} := by
  show (if peerOf (dsem k p) = c then ∅ else {peerOf (dsem k p)}) = _
  rw [peerOf_dsem, if_neg h]
theorem duties_own (k : Fin 4) (r : ℕ) : (sch Y).duties (dcell c k c) r = ∅ := by
  show (if r = 0 then (if peerOf (dsem k c) = c then ∅ else {peerOf (dsem k c)}) else ∅) = _
  rw [peerOf_dsem, if_pos rfl]; split <;> rfl
theorem duties_later (g : GSem nD τ sig) : ∀ r, 1 ≤ r → (sch Y).duties g r = ∅ := fun r hr => if_neg (by omega)
theorem amount_bar (d : Dev nD) : (sch Y).amount (barCell c) 0 d = 1 := rfl
theorem amount_dma (k : Fin 4) (p d : Dev nD) : (sch Y).amount (dcell c k p) 0 d = amt k := by
  show amt (kindOf (dsem k p)) = _; rw [kindOf_dsem]
theorem expect_bar : (sch Y).expect (barCell c) 0 = 31 := by
  unfold Schedule.expect Schedule.amountOf
  rw [duties_bar, Finset.sum_congr rfl fun d _ => amount_bar Y c d, Finset.sum_const, Finset.card_erase_of_mem (Finset.mem_univ _), Finset.card_univ, Fintype.card_fin]
  rfl
theorem expect_dma (k : Fin 4) {p : Dev nD} (h : p ≠ c) : (sch Y).expect (dcell c k p) 0 = amt k := by
  unfold Schedule.expect Schedule.amountOf; rw [duties_dma Y c k h, Finset.sum_singleton, amount_dma]
theorem payload_bar (d : Dev nD) : (sch Y).payload (barCell c) 0 d = barPay c d := rfl
theorem payload_dma (k : Fin 4) (p d : Dev nD) : (sch Y).payload (dcell c k p) 0 d = dmaPay Y c k p := by
  show dmaPay Y c (kindOf (dsem k p)) (peerOf (dsem k p)) = _; rw [kindOf_dsem, peerOf_dsem]
theorem rest_bar : bigSep ((sch Y).duties (barCell c) 0 \ ∅) (fun d => (sch Y).payload (barCell c) 0 d) = bigSep Finset.univ fun r : Fin 31 => (barPay c (tgt c r) : sProp 𝕄) := by
  rw [Finset.sdiff_empty, duties_bar]; exact bigSep_tgt c (barPay c)
theorem rest_dma (k : Fin 4) {p : Dev nD} (h : p ≠ c) :
    bigSep ((sch Y).duties (dcell c k p) 0 \ ∅) (fun d => (sch Y).payload (dcell c k p) 0 d) = dmaPay Y c k p := by
  rw [Finset.sdiff_empty, duties_dma Y c k h, bigSep_singleton, payload_dma]

end Tables

/-! ## What each core owes at launch; the levels -/

/-- The signals still owed, and the transfers still owed, when the hops left are `l`. -/
def sigOwed (c : Dev nD) (l : List (Fin 31)) : CellTallies nD τ sig Unit := (l.map fun r => tallyAt (barCell (tgt c r)) () 1).sum
def sendOwed (c : Dev nD) (l : List (Fin 31)) : CellTallies nD τ sig Unit :=
  (l.map fun r => tallyAt (dcell (tgt c r) 1 c) () NB + tallyAt (dcell (tgt c r) 3 c) () NA).sum
def O₀ (c : Dev nD) : CellTallies nD τ sig Unit := sendOwed c hops + sigOwed c hops

theorem sum_pos {ι : Type} (f : ι → CellTallies nD τ sig Unit) {g : GSem nD τ sig} {u : Unit} :
    ∀ l : List ι, 0 < (l.map f).sum g u → ∃ i, 0 < f i g u
  | [], h => absurd h (Nat.lt_irrefl 0)
  | i :: is, h => by
    rw [List.map_cons, List.sum_cons, Pi.add_apply, Finsupp.add_apply] at h
    rcases Nat.eq_zero_or_pos (f i g u) with h0 | h0
    · rw [h0, Nat.zero_add] at h; exact sum_pos f is h
    · exact ⟨i, h0⟩

theorem sigOwed_pos {c : Dev nD} {l : List (Fin 31)} {g : GSem nD τ sig} {u : Unit} (h : 0 < sigOwed c l g u) : ∃ t, g = barCell t := by
  obtain ⟨r, hr⟩ := sum_pos _ l h
  exact ⟨_, (Pipeline.tallyAt_pos hr).1⟩
theorem sendOwed_pos {c : Dev nD} {l : List (Fin 31)} {g : GSem nD τ sig} {u : Unit} (h : 0 < sendOwed c l g u) :
    ∃ t, g = dcell t 1 c ∨ g = dcell t 3 c := by
  obtain ⟨r, hr⟩ := sum_pos _ l h
  rw [Pi.add_apply, Finsupp.add_apply] at hr
  rcases Nat.eq_zero_or_pos ((tallyAt (dcell (tgt c r) 1 c) () NB : CellTallies nD τ sig Unit) g u) with h0 | h0
  · rw [h0, Nat.zero_add] at hr; exact ⟨_, Or.inr (Pipeline.tallyAt_pos hr).1⟩
  · exact ⟨_, Or.inl (Pipeline.tallyAt_pos h0).1⟩

def L (g : GSem nD τ sig) : Finset Unit := if g.1.2 = .tc then {()} else ∅
/-- Barrier cells at 1, arrivals at 2, everything else (staging, departures) at 0. -/
def lv (g : GSem nD τ sig) (_ : Unit) : ℕ := match g.2 with | .reg _ => 1 | .dma q => if (kindOf q).val % 2 = 1 then 2 else 0

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _
theorem lv_bar (c : Dev nD) : lv (barCell c) () = 1 := rfl
theorem lv_dma (c : Dev nD) (k : Fin 4) (p : Dev nD) : lv (dcell c k p) () = if k.val % 2 = 1 then 2 else 0 := by
  show (if (kindOf (dsem k p)).val % 2 = 1 then 2 else 0) = _; rw [kindOf_dsem]

theorem O₀_pos {c : Dev nD} {g : GSem nD τ sig} {u : Unit} (h : 0 < O₀ c g u) : ∃ t, g = dcell t 1 c ∨ g = dcell t 3 c ∨ g = barCell t := by
  unfold O₀ at h; rw [Pi.add_apply, Finsupp.add_apply] at h
  rcases Nat.eq_zero_or_pos (sendOwed c hops g u) with h0 | h0
  · rw [h0, Nat.zero_add] at h; obtain ⟨t, ht⟩ := sigOwed_pos h; exact ⟨t, Or.inr (Or.inr ht)⟩
  · obtain ⟨t, ht | ht⟩ := sendOwed_pos h0; exacts [⟨t, Or.inl ht⟩, ⟨t, Or.inr (Or.inl ht)⟩]

theorem mayWait_stage (c : Dev nD) (q : DmaSem sig) (hq : (kindOf q).val % 2 ≠ 1) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by obtain ⟨t, rfl | rfl | rfl⟩ := O₀_pos hg <;> exact mem_L _ _ _)
      (fun p hp => by rw [Finset.mem_singleton.mp hp]; exact le_of_eq (if_neg hq))
      (fun g u hg => by
        obtain ⟨t, rfl | rfl | rfl⟩ := O₀_pos hg
        · rw [lv_dma]; decide
        · rw [lv_dma]; decide
        · rw [lv_bar]; decide)
  · rw [MayWait_zero]; iintro -; iempintro

/-- At its barrier wait a device owes arrivals only, which lie above its barrier cell. -/
theorem mayWait_bar (c : Dev nD) : (levAts L lv : sProp 𝕄) ⊢ MayWait (c : Thread nD τ) (.reg barS) () (sendOwed c hops) :=
  MayOwe.of_cut (L := L) (lev := lv) 1 (fun p hp => by rw [Finset.mem_singleton.mp hp]; exact mem_L _ _ _)
    (fun g u hg => by obtain ⟨t, rfl | rfl⟩ := sendOwed_pos hg <;> exact mem_L _ _ _)
    (fun p hp => by rw [Finset.mem_singleton.mp hp]; exact le_rfl)
    (fun g u hg => by
      obtain ⟨t, rfl | rfl⟩ := sendOwed_pos hg
      · rw [lv_dma]; decide
      · rw [lv_dma]; decide)

end Cert.KernelIdeal.Run

end
-- ==== Proof.Rules.lean ====
/-
# The rules of the body's operations

Loads and stores of a piece of a buffer owned by its contents, of a whole buffer, and the rules of the protocol's
operations: a signal with the two places it hands over, the barrier wait, the two transfers to a device, and a wait on a DMA
semaphore, after which the semaphore is closed.
-/
module

public import proofs.«01_k».proof.Proof.Protocol

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Programs in sequence -/

/-- A program, then what follows it. -/
theorem WP_seq (c : Dev nD) {α β : Type} {p : P F α} {f : α → P F β} {A : sProp 𝕄} {R : α → sProp 𝕄} {Q : β → sProp 𝕄}
    (h : A ⊢ WP c p R) (h' : ∀ a, R a ⊢ WP c (f a) Q) : A ⊢ WP c (p >>= f) Q := by
  unfold WP; rw [wp_bind]
  exact h.trans (wp_mono frame (wpE (defs₀ (F := F)) Variants.none (c : Thread nD τ) none) Set.univ h')

/-- What a program does not touch stays. -/
theorem WP_frame (c : Dev nD) {α : Type} {p : P F α} {A B : sProp 𝕄} {R : α → sProp 𝕄} (h : A ⊢ WP c p R) :
    iprop(A ∗ B) ⊢ WP c p fun a => iprop(R a ∗ B) :=
  (sep_mono_left h).trans (wp_frame_r frame (wpE (defs₀ (F := F)) Variants.none (c : Thread nD τ) none) Set.univ)

theorem WP_mono (c : Dev nD) {α : Type} {p : P F α} {A : sProp 𝕄} {R Q : α → sProp 𝕄} (h : A ⊢ WP c p R) (h' : ∀ a, R a ⊢ Q a) : A ⊢ WP c p Q :=
  h.trans (wp_mono frame (wpE (defs₀ (F := F)) Variants.none (c : Thread nD τ) none) Set.univ h')

/-- Two programs in sequence, each with its own resources, around a common state. -/
theorem WP_both (c : Dev nD) {p q : P F PUnit} {A B A' B' S S' S'' : sProp 𝕄} (h : iprop(A ∗ S) ⊢ WP c p fun _ => iprop(A' ∗ S'))
    (h' : iprop(B ∗ S') ⊢ WP c q fun _ => iprop(B' ∗ S'')) : iprop((A ∗ B) ∗ S) ⊢ WP c (p >>= fun _ => q) fun _ => iprop((A' ∗ B') ∗ S'') := by
  refine (show iprop((A ∗ B) ∗ S) ⊢ iprop((A ∗ S) ∗ B) from ?_).trans (WP_seq c (WP_frame c h) fun _ =>
    (show iprop((A' ∗ S') ∗ B) ⊢ iprop((B ∗ S') ∗ A') from ?_).trans (WP_mono c (WP_frame c h') fun _ => ?_))
  · iintro ⟨⟨HA, HB⟩, HS⟩
    isplitr [HB]
    · isplitl [HA] <;> iassumption
    iexact HB
  · iintro ⟨⟨HA, HS⟩, HB⟩
    isplitr [HA]
    · isplitl [HB] <;> iassumption
    iexact HA
  · iintro ⟨⟨HB, HS⟩, HA⟩
    isplitr [HS]
    · isplitl [HA] <;> iassumption
    iexact HS

/-! ## Loads and stores -/

section Mem
variable (c : Dev nD) {s : Shape} (m : Memref sig .tc .vmem s .f32) (r : Rect s) (hr : ∀ a, r.stride a = 1)

theorem load_piece {hl : m.view.LoadsAt r.toLoadRect} (q : PosShare TreeShare) (X : r.shape.Idx → Elt F .f32) :
    owns (c : Thread nD τ) (m.slice r hr) q X
      ⊢ WP c (Prog.lift (.load m r.toLoadRect hl) : P F (r.shape.Idx → Elt F .f32)) fun v => iprop(⌜v = X⌝ ∗ owns (c : Thread nD τ) (m.slice r hr) q X) := by
  unfold WP owns Prog.lift
  iintro ⟨%f, %hf, H⟩
  iapply (wp_load_rect Variants.none (c : Thread nD τ) none Set.univ (m := m) (r := r) (S := (m.slice r hr).view.set) (f := f) (Finset.Subset.refl _)) $$ H
  iintro H
  rw [wp_ret]; imodintro
  isplitr
  · ipureintro; exact hf
  iexists f; isplitr
  · ipureintro; exact hf
  iexact H

theorem store_piece {X : r.shape.Idx → Elt F .f32} (w : r.shape.Idx → Elt F .f32) {hx : (m.access r).Stores Finset.univ}
    {hm : (Finset.univ : Finset r.shape.Idx) = Finset.univ ∨ ∀ a, r.stride a = 1} :
    owns (c : Thread nD τ) (m.slice r hr) fullShare X
      ⊢ WP c (Prog.lift (.store m r w Finset.univ hx hm) : P F PUnit) fun _ => owns (c : Thread nD τ) (m.slice r hr) fullShare w := by
  unfold WP owns Prog.lift
  iintro ⟨%f, %hf, H⟩
  iapply (wp_store Variants.none (c : Thread nD τ) none Set.univ (m := m) (r := r) (Mk := Finset.univ) (S := (m.slice r hr).view.set) (f := f)
    (Finset.Subset.refl _)) $$ H
  iintro H
  rw [wp_ret]; imodintro
  iexists _; isplitr
  swap; · iexact H
  ipureintro; exact View.read_write_univ _ _

end Mem

section Whole
variable (c : Dev nD) {sz : Shape} (m : Memref sig .tc .vmem sz .f32) {off : Fin sz.rank → ℕ} (hz : off = fun _ => 0) (h : ∀ a, off a + sz.size a ≤ sz.size a)

include hz
theorem whole_emb (i : sz.Idx) : (Rect.unit (s := sz) off sz.size h).emb i = i := by
  subst hz; funext a; refine Fin.ext ?_
  rw [Rect.emb_apply]
  show 0 + 1 * (i a).val = (i a).val; omega
theorem whole_set : (m.access (Rect.unit (s := sz) off sz.size h)).set = m.view.set := by
  rw [View.set_slice, show (Rect.unit (s := sz) off sz.size h).set = Finset.univ from ?_]; · rfl
  refine Finset.eq_univ_iff_forall.mpr fun i => ?_
  rw [← Rect.map_emb_univ, Finset.mem_map]
  exact ⟨i, Finset.mem_univ _, whole_emb hz h i⟩
theorem whole_read (f : m.view.ty.Contents (Elt F)) : (m.access (Rect.unit (s := sz) off sz.size h)).read (Elt F) f = m.view.read (Elt F) f := by
  funext i
  show m.view.read (Elt F) f ((Rect.unit (s := sz) off sz.size h).emb i) = _
  rw [whole_emb hz h]

theorem load_all {hl : m.view.LoadsAt (Rect.unit (s := sz) off sz.size h).toLoadRect} (q : PosShare TreeShare) (X : sz.Idx → Elt F .f32) :
    owns (c : Thread nD τ) m q X
      ⊢ WP c (Prog.lift (.load m (Rect.unit (s := sz) off sz.size h).toLoadRect hl) : P F (sz.Idx → Elt F .f32)) fun v => iprop(⌜v = X⌝ ∗ owns (c : Thread nD τ) m q X) := by
  unfold WP owns Prog.lift
  iintro ⟨%f, %hf, H⟩
  iapply (wp_load_rect Variants.none (c : Thread nD τ) none Set.univ (m := m) (r := Rect.unit (s := sz) off sz.size h) (S := m.view.set) (f := f)
    (Finset.subset_of_eq (whole_set m hz h))) $$ H
  iintro H
  rw [wp_ret]; imodintro
  isplitr
  · ipureintro; rw [whole_read m hz h]; exact hf
  iexists f; isplitr
  · ipureintro; exact hf
  iexact H

theorem store_all {X : sz.Idx → Elt F .f32} (w : sz.Idx → Elt F .f32) {hx : (m.access (Rect.unit (s := sz) off sz.size h)).Stores Finset.univ}
    {hm : (Finset.univ : Finset (Rect.unit (s := sz) off sz.size h).shape.Idx) = Finset.univ ∨ ∀ a, (Rect.unit (s := sz) off sz.size h).stride a = 1} :
    owns (c : Thread nD τ) m fullShare X
      ⊢ WP c (Prog.lift (.store m (Rect.unit (s := sz) off sz.size h) w Finset.univ hx hm) : P F PUnit) fun _ => owns (c : Thread nD τ) m fullShare w := by
  unfold WP owns Prog.lift
  iintro ⟨%f, %hf, H⟩
  iapply (wp_store Variants.none (c : Thread nD τ) none Set.univ (m := m) (r := Rect.unit (s := sz) off sz.size h) (Mk := Finset.univ) (S := m.view.set) (f := f)
    (Finset.subset_of_eq (whole_set m hz h))) $$ H
  iintro H
  rw [wp_ret]; imodintro
  iexists _; isplitr
  swap; · iexact H
  ipureintro
  exact (whole_read m hz h _).symm.trans (View.read_write_univ _ _)

end Whole

/-! ## The protocol's records: every cell's invariant, and that every cell is at round 0 -/

section Records

/-- A device's cells: its barrier, and its DMA semaphores by kind and peer. -/
abbrev CI : Type := Option (Fin 4 × Dev nD)
abbrev kcell (ck : Dev nD × CI) : GSem nD τ sig :=
  match ck.2 with | none => barCell ck.1 | some kp => dcell ck.1 kp.1 kp.2

variable (Y : Dev nD → FVec F S128x2048 .f32) (K : Dev nD × CI → ℕ)

def records : sProp 𝕄 :=
  iprop((bigSep Finset.univ fun ck : Dev nD × CI => cellInv ER (sch Y) (K ck) (kcell ck)) ∗ bigSep Finset.univ fun ck : Dev nD × CI => reached ER (kcell ck) 0)

instance records_persistent : BI.Persistent (records Y K) := by unfold records; infer_instance

theorem inv_bar (c : Dev nD) : records Y K ⊢ cellInv ER (sch Y) (K (c, none)) (barCell c) := by
  unfold records; exact sep_elim_left.trans (bigSep_elim (Finset.mem_univ ((c, none) : Dev nD × CI)))
theorem inv_dma (c : Dev nD) (k : Fin 4) (p : Dev nD) : records Y K ⊢ cellInv ER (sch Y) (K (c, some (k, p))) (dcell c k p) := by
  unfold records; exact sep_elim_left.trans (bigSep_elim (Finset.mem_univ ((c, some (k, p)) : Dev nD × CI)))
theorem reached_bar (c : Dev nD) : records Y K ⊢ reached ER (barCell c) 0 := by
  unfold records; exact sep_elim_right.trans (bigSep_elim (Finset.mem_univ ((c, none) : Dev nD × CI)))
theorem reached_dma (c : Dev nD) (k : Fin 4) (p : Dev nD) : records Y K ⊢ reached ER (dcell c k p) 0 := by
  unfold records; exact sep_elim_right.trans (bigSep_elim (Finset.mem_univ ((c, some (k, p)) : Dev nD × CI)))

/-- The state threaded through a loop: the records, and what the core owes. -/
def st (c : Dev nD) (O : CellTallies nD τ sig Unit) : sProp 𝕄 := iprop(records Y K ∗ ∃ W, owes (c : Thread nD τ) O W)

/-- A signal to `t`, handing over `c`'s places for `t`'s rows and largest magnitude. -/
theorem wp_sig (c t : Dev nD) (ht : t ≠ c) (O : CellTallies nD τ sig Unit) :
    iprop((dutyTok ER (barCell t) 0 c ∗ barPay t c) ∗ st Y K c (O + tallyAt (barCell t) () 1))
      ⊢ WP c (semSignalWord t barS 1#32 : P F PUnit) fun _ => iprop(emp ∗ st Y K c O) := by
  unfold WP semSignalWord st
  iintro ⟨⟨Ht, Hp⟩, #HR, ⟨%W, HO⟩⟩
  iapply (Rounds.wp_signal Variants.none ER (sch Y) (c : Thread nD τ) none (dst := (t : Thread nD τ)) (κ := K (t, none))
      (d := c) (r := 0) (by rw [duties_bar]; exact Finset.mem_erase.mpr ⟨ht.symm, Finset.mem_univ _⟩) ((amount_bar Y t c).trans (by decide)) () O rfl)
    $$ [HO Ht Hp]
  · isplitr; · iapply (inv_bar Y K t); iexact HR
    isplitl [HO]; · iexact HO
    isplitl [Ht]; · iexact Ht
    isplitl [Hp]; · rw [payload_bar]; iexact Hp
    iapply (reached_bar Y K t); iexact HR
  iintro HO
  rw [wp_ret]; imodintro
  isplitr; · iempintro
  isplitr; · iexact HR
  iexists W; iexact HO

/-- The wait for the 31 signals: every other device's places for `c`, and the barrier closed. -/
theorem wp_bar (c : Dev nD) :
    iprop((cred (tallyAt (barCell c) () 31) ∗ atPos ER (barCell c) 0 ∅ 0 ∗ levAts L lv) ∗ st Y K c (sendOwed c hops))
      ⊢ WP c (semWaitWord barS 31#32 : P F PUnit) fun _ =>
          iprop(((bigSep Finset.univ fun r : Fin 31 => barPay c (tgt c r)) ∗ semVal (barCell c) 0) ∗ st Y K c (sendOwed c hops)) := by
  unfold WP semWaitWord st
  iintro ⟨⟨Hc, Hat, Hlev⟩, #HR, ⟨%W, HO⟩⟩
  iapply (Rounds.wp_wait_rest_token Variants.none ER (sch Y) (c : Thread nD τ) none (κ := K (c, none))
      (wpE_semWait_eq Variants.none (c : Thread nD τ) none Set.univ) (Set.mem_univ _) () (O := sendOwed c hops) (W := W) (R := 0) (m := 0) (T := ∅)
      (by rw [expect_bar]; decide)) $$ [Hc HO Hat Hlev]
  · isplitr; · iapply (inv_bar Y K c); iexact HR
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar Y c)) $$ Hpay
  rw [wp_ret]
  imod (Rounds.cell_close ER (sch Y) (Set.mem_univ (K (c, none))) (fun h => h) (R := 0 + 1) (duties_later Y (barCell c))) $$ [Hat] with Hz
  · isplitr; · iapply (inv_bar Y K c); iexact HR
    iexact Hat
  imodintro
  isplitl [Hp Hz]; · isplitl [Hp] <;> iassumption
  isplitr; · iexact HR
  iexists _; iexact HO

/-- A wait on the semaphore of kind `k` for another device: what it hands over, and the semaphore closed. -/
theorem wp_dma (c : Dev nD) (k : Fin 4) (p : Dev nD) (hp : p ≠ c) {w : TpuEff nD τ sig (Elt F) Λ₀ .tc PUnit}
    (hw : ∀ Q : PUnit → sProp 𝕄, wpE (defs₀ (F := F)) Variants.none (c : Thread nD τ) none Set.univ w Q = waitSpec (c : Thread nD τ) Set.univ (.dma (dsem k p)) (amt k) Q) :
    iprop((cred (tallyAt (dcell c k p) () (amt k)) ∗ atPos ER (dcell c k p) 0 ∅ 0) ∗ st Y K c 0)
      ⊢ WP c (Prog.lift w : P F PUnit) fun _ => iprop((dmaPay Y c k p ∗ semVal (dcell c k p) 0) ∗ st Y K c 0) := by
  unfold WP Prog.lift st
  iintro ⟨⟨Hc, Hat⟩, #HR, ⟨%W, HO⟩⟩
  iapply (Rounds.wp_wait_rest_token Variants.none ER (sch Y) (c : Thread nD τ) none (κ := K (c, some (k, p)))
      hw (Set.mem_univ _) () (O := 0) (W := W) (R := 0) (m := 0) (T := ∅)
      (by rw [expect_dma Y c k hp, Nat.zero_add])) $$ [Hc HO Hat]
  · isplitr; · iapply (inv_dma Y K c k p); iexact HR
    isplitl [Hc]; · iexact Hc
    isplitl [HO]; · iexact HO
    isplitr; · rw [MayWait_zero]; iempintro
    iexact Hat
  iintro ⟨HO, Hat, -, Hpay⟩
  ihave Hp := (Entails.of_eq (rest_dma Y c k hp)) $$ Hpay
  rw [wp_ret]
  imod (Rounds.cell_close ER (sch Y) (Set.mem_univ (K (c, some (k, p)))) (fun h => h) (R := 0 + 1) (duties_later Y (dcell c k p))) $$ [Hat] with Hz
  · isplitr; · iapply (inv_dma Y K c k p); iexact HR
    iexact Hat
  imodintro
  isplitl [Hp Hz]; · isplitl [Hp] <;> iassumption
  isplitr; · iexact HR
  iexists _; iexact HO

end Records

end Cert.KernelIdeal.Run

end
-- ==== Proof.Phases.lean ====
/-
# The body's phases

The rule of each loop of the body and of the steps between them, over what the core holds of its buffers.
-/
module

public import proofs.«01_k».proof.Proof.Rules

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Y : Dev nD → FVec F S128x2048 .f32) (K : Dev nD × CI → ℕ)

/-! ## The transfers -/

theorem wp_sendBlock (c t : Dev nD) (ht : t ≠ c) (O : CellTallies nD τ sig Unit) :
    iprop((dutyTok ER (dcell c 0 t) 0 t ∗ dutyTok ER (dcell t 1 c) 0 c ∗ slabRes Y c t ∗ ∃ X, owns (t : Thread nD τ) (rowM c) fullShare X)
        ∗ st Y K c (O + tallyAt (dcell t 1 c) () NB))
      ⊢ WP c (sendBlock' c t : P F PUnit) fun _ => iprop(cred (tallyAt (dcell c 0 t) () NB) ∗ st Y K c O) := by
  unfold WP sendBlock' Prog.lift st slabRes owns
  iintro ⟨⟨Ht0, Ht1, ⟨%fs, %hfs, Hs⟩, ⟨%X, %fd, %hfd, Hd⟩⟩, #HR, ⟨%W, HO⟩⟩
  rw [← slabQ_set]
  iapply (Rounds.wp_send_pointsTo Variants.none ER (sch Y) (c : Thread nD τ) none (c' := (t : Thread nD τ)) (src := slabQ t) (dst := rowM c)
      (κ₁ := K (c, some (0, t))) (κ₂ := K (t, some (1, c)))
      (r₁ := 0) (r₂ := 0) (d₁ := t) (d₂ := c) (q := fullShare) (fs := fs) (fd := fd)
      (by rw [duties_dma Y c 0 ht]; exact Finset.mem_singleton_self _) (by rw [duties_dma Y t 1 ht.symm]; exact Finset.mem_singleton_self _)
      () () NB rfl (amount_dma Y c 0 t t) (amount_dma Y t 1 c c) O rfl (W := W)
      (by
        rw [payload_dma]; show _ ⊢ slabRes Y c t
        unfold slabRes owns; rw [slabQ_set]
        iintro H; iexists fs; isplitr
        · ipureintro; exact hfs
        iexact H)
      (by
        rw [payload_dma]; show _ ⊢ rowRes Y t c
        unfold rowRes owns
        iintro H; iexists _; isplitr
        swap; · iexact H
        ipureintro
        refine (View.read_write_univ _ _).trans ?_
        show shapeCast S128x64 ((slabM t).view.read (Elt F) fs) shapeCasts_S1x128x64_S128x64 = _
        rw [hfs, cast_blockPay]))
    $$ [Ht0 Ht1 Hs Hd HO]
  · isplitr; · iapply (inv_dma Y K c 0 t); iexact HR
    isplitr; · iapply (inv_dma Y K t 1 c); iexact HR
    isplitl [Hs]; · iexact Hs
    isplitl [Hd]; · iexact Hd
    isplitl [HO]; · iexact HO
    isplitl [Ht0]; · iexact Ht0
    isplitr; · iapply (reached_dma Y K c 0 t); iexact HR
    isplitl [Ht1]; · iexact Ht1
    iapply (reached_dma Y K t 1 c); iexact HR
  iintro ⟨Hc, HO⟩
  rw [wp_ret]; imodintro
  isplitl [Hc]; · iexact Hc
  isplitr; · iexact HR
  iexists W; iexact HO

theorem read_maxM (p : Dev nD) (f : (maxM p).view.ty.Contents (Elt F)) (v : FVec F S8x128 .f32) (h : (maxQ p).view.read (Elt F) f = v) :
    (maxM p).view.read (Elt F) f = k0_pay38 v := by
  have h' : shapeCast S8x128 ((maxM p).view.read (Elt F) f) (by decide) = v := h
  show _ = shapeCast S1x8x128 (shapeCast S1x8x128 v shapeCasts_S8x128_S1x8x128) shapeCasts_S1x8x128_S1x8x128
  rw [← h', shapeCast_shapeCast, shapeCast_self]

theorem wp_sendMax (c t : Dev nD) (ht : t ≠ c) (O : CellTallies nD τ sig Unit) :
    iprop((dutyTok ER (dcell c 2 t) 0 t ∗ dutyTok ER (dcell t 3 c) 0 c ∗ ampRes Y c t ∗ ∃ X, owns (t : Thread nD τ) (maxM c) fullShare X)
        ∗ st Y K c (O + tallyAt (dcell t 3 c) () NA))
      ⊢ WP c (sendMax' c t : P F PUnit) fun _ => iprop(cred (tallyAt (dcell c 2 t) () NA) ∗ st Y K c O) := by
  unfold WP sendMax' Prog.lift st ampRes owns
  iintro ⟨⟨Ht0, Ht1, ⟨%fs, %hfs, Hs⟩, ⟨%X, %fd, %hfd, Hd⟩⟩, #HR, ⟨%W, HO⟩⟩
  rw [← maxQ_set]
  iapply (Rounds.wp_send_pointsTo Variants.none ER (sch Y) (c : Thread nD τ) none (c' := (t : Thread nD τ)) (src := aM) (dst := maxQ c)
      (κ₁ := K (c, some (2, t))) (κ₂ := K (t, some (3, c)))
      (r₁ := 0) (r₂ := 0) (d₁ := t) (d₂ := c) (q := Transfers.shareTokN fullShare (hopOf c t)) (fs := fs) (fd := fd)
      (by rw [duties_dma Y c 2 ht]; exact Finset.mem_singleton_self _) (by rw [duties_dma Y t 3 ht.symm]; exact Finset.mem_singleton_self _)
      () () NA rfl (amount_dma Y c 2 t t) (amount_dma Y t 3 c c) O rfl (W := W)
      (by
        rw [payload_dma]; show _ ⊢ ampRes Y c t
        unfold ampRes owns
        iintro H; iexists fs; isplitr
        · ipureintro; exact hfs
        iexact H)
      (by
        rw [payload_dma]; show _ ⊢ maxRes Y t c
        unfold maxRes owns; rw [maxQ_set]
        iintro H; iexists _; isplitr
        swap; · iexact H
        ipureintro
        refine read_maxM c _ _ ((View.read_write_univ _ _).trans ?_)
        exact hfs))
    $$ [Ht0 Ht1 Hs Hd HO]
  · isplitr; · iapply (inv_dma Y K c 2 t); iexact HR
    isplitr; · iapply (inv_dma Y K t 3 c); iexact HR
    isplitl [Hs]; · iexact Hs
    isplitl [Hd]; · iexact Hd
    isplitl [HO]; · iexact HO
    isplitl [Ht0]; · iexact Ht0
    isplitr; · iapply (reached_dma Y K c 2 t); iexact HR
    isplitl [Ht1]; · iexact Ht1
    iapply (reached_dma Y K t 3 c); iexact HR
  iintro ⟨Hc, HO⟩
  rw [wp_ret]; imodintro
  isplitl [Hc]; · iexact Hc
  isplitr; · iexact HR
  iexists W; iexact HO

/-! ## The loops -/

theorem phase_sig (c : Dev nD) :
    iprop(sepL (fun r => iprop(dutyTok ER (barCell (tgt c r)) 0 c ∗ barPay (tgt c r) c)) hops ∗ st Y K c (O₀ c))
      ⊢ WP c (loop (fun r => semSignalWord (tgt c r) barS 1#32) hops : P F PUnit) fun _ => iprop(sepL (fun _ => iprop(emp)) hops ∗ st Y K c (sendOwed c hops)) := by
  have h := wp_loop c (fun r => (semSignalWord (tgt c r) barS 1#32 : P F PUnit))
    (fun r => iprop(dutyTok ER (barCell (tgt c r)) 0 c ∗ barPay (tgt c r) c)) (fun _ => iprop(emp)) (fun l => st Y K c (sendOwed c hops + sigOwed c l))
    (fun r is => by
      rw [show sendOwed c hops + sigOwed c (r :: is) = (sendOwed c hops + sigOwed c is) + tallyAt (barCell (tgt c r)) () 1 from by
        unfold sigOwed; rw [List.map_cons, List.sum_cons, add_comm (tallyAt _ _ _), add_assoc]]
      exact wp_sig Y K c (tgt c r) (tgt_ne c r) _) hops
  rw [show sendOwed c hops + sigOwed c [] = sendOwed c hops from add_zero _] at h
  exact h

theorem wp_storeStep (c : Dev nD) (y : FVec F S128x2048 .f32) (j : Fin 32) :
    iprop(∃ X, owns (c : Thread nD τ) (slabM j) fullShare X) ⊢ WP c (storeStep yM y j : P F PUnit) fun _ => owns (c : Thread nD τ) (slabM j) fullShare (blockPay y j) := by
  unfold storeStep
  iintro ⟨%X, H⟩
  iapply (WP_seq c (load_piece c yM (slabR j) (fun _ => rfl) fullShare X)
    (fun v => sep_elim_right.trans (store_piece c yM (slabR j) (fun _ => rfl) (X := X) (blockPay y j)))) $$ H

theorem phase_store (c : Dev nD) (y : FVec F S128x2048 .f32) :
    iprop(sepL (fun j => iprop(∃ X, owns (c : Thread nD τ) (slabM j) fullShare X)) blocks ∗ emp)
      ⊢ WP c (loop (storeStep yM y) blocks : P F PUnit) fun _ => iprop(sepL (fun j => owns (c : Thread nD τ) (slabM j) fullShare (blockPay y j)) blocks ∗ emp) :=
  wp_loop c (storeStep yM y) (fun j => iprop(∃ X, owns (c : Thread nD τ) (slabM j) fullShare X)) (fun j => owns (c : Thread nD τ) (slabM j) fullShare (blockPay y j))
    (fun _ => iprop(emp)) (fun j _ => WP_frame c (wp_storeStep c y j)) blocks

theorem phase_send (c : Dev nD) :
    iprop(sepL (fun r => iprop((dutyTok ER (dcell c 0 (tgt c r)) 0 (tgt c r) ∗ dutyTok ER (dcell (tgt c r) 1 c) 0 c ∗ slabRes Y c (tgt c r)
              ∗ ∃ X, owns (tgt c r : Thread nD τ) (rowM c) fullShare X)
            ∗ (dutyTok ER (dcell c 2 (tgt c r)) 0 (tgt c r) ∗ dutyTok ER (dcell (tgt c r) 3 c) 0 c ∗ ampRes Y c (tgt c r)
              ∗ ∃ X, owns (tgt c r : Thread nD τ) (maxM c) fullShare X))) hops ∗ st Y K c (sendOwed c hops))
      ⊢ WP c (loop (fun r => do sendBlock' c (tgt c r); sendMax' c (tgt c r)) hops : P F PUnit) fun _ =>
          iprop(sepL (fun r => iprop(cred (tallyAt (dcell c 0 (tgt c r)) () NB) ∗ cred (tallyAt (dcell c 2 (tgt c r)) () NA))) hops ∗ st Y K c 0) :=
  wp_loop c (fun r => (do sendBlock' c (tgt c r); sendMax' c (tgt c r) : P F PUnit)) _
    (fun r => iprop(cred (tallyAt (dcell c 0 (tgt c r)) () NB) ∗ cred (tallyAt (dcell c 2 (tgt c r)) () NA))) (fun l => st Y K c (sendOwed c l))
    (fun r is => by
      rw [show sendOwed c (r :: is) = (sendOwed c is + tallyAt (dcell (tgt c r) 3 c) () NA) + tallyAt (dcell (tgt c r) 1 c) () NB from by
        unfold sendOwed; rw [List.map_cons, List.sum_cons, add_comm, add_comm (tallyAt _ _ _) (tallyAt _ _ _), add_assoc]]
      exact WP_both c (wp_sendBlock Y K c (tgt c r) (tgt_ne c r) _) (wp_sendMax Y K c (tgt c r) (tgt_ne c r) _)) hops

theorem phase_max (c : Dev nD) :
    iprop(sepL (fun r => iprop(cred (tallyAt (dcell c 3 (tgt c r)) () NA) ∗ atPos ER (dcell c 3 (tgt c r)) 0 ∅ 0)) hops ∗ st Y K c 0)
      ⊢ WP c (loop (fun r => maxWait' (tgt c r)) hops : P F PUnit) fun _ =>
          iprop(sepL (fun r => iprop(maxRes Y c (tgt c r) ∗ semVal (dcell c 3 (tgt c r)) 0)) hops ∗ st Y K c 0) :=
  wp_loop c (fun r => (maxWait' (tgt c r) : P F PUnit)) _ _ (fun _ => st Y K c 0)
    (fun r _ => wp_dma Y K c 3 (tgt c r) (tgt_ne c r) (wpE_waitDma2_eq Variants.none (c : Thread nD τ) none Set.univ)) hops

theorem phase_block (c : Dev nD) :
    iprop(sepL (fun r => iprop(cred (tallyAt (dcell c 1 (tgt c r)) () NB) ∗ atPos ER (dcell c 1 (tgt c r)) 0 ∅ 0)) hops ∗ st Y K c 0)
      ⊢ WP c (loop (fun r => blockWait' (tgt c r)) hops : P F PUnit) fun _ =>
          iprop(sepL (fun r => iprop(rowRes Y c (tgt c r) ∗ semVal (dcell c 1 (tgt c r)) 0)) hops ∗ st Y K c 0) :=
  wp_loop c (fun r => (blockWait' (tgt c r) : P F PUnit)) _ _ (fun _ => st Y K c 0)
    (fun r _ => wp_dma Y K c 1 (tgt c r) (tgt_ne c r) (wpE_waitDma2_eq Variants.none (c : Thread nD τ) none Set.univ)) hops

theorem phase_depart (c : Dev nD) :
    iprop(sepL (fun r => iprop((cred (tallyAt (dcell c 0 (tgt c r)) () NB) ∗ atPos ER (dcell c 0 (tgt c r)) 0 ∅ 0)
            ∗ (cred (tallyAt (dcell c 2 (tgt c r)) () NA) ∗ atPos ER (dcell c 2 (tgt c r)) 0 ∅ 0))) hops ∗ st Y K c 0)
      ⊢ WP c (loop (fun r => departStep' c (tgt c r)) hops : P F PUnit) fun _ =>
          iprop(sepL (fun r => iprop((slabRes Y c (tgt c r) ∗ semVal (dcell c 0 (tgt c r)) 0) ∗ (ampRes Y c (tgt c r) ∗ semVal (dcell c 2 (tgt c r)) 0))) hops ∗ st Y K c 0) :=
  wp_loop c (fun r => (departStep' c (tgt c r) : P F PUnit)) _
    (fun r => iprop((slabRes Y c (tgt c r) ∗ semVal (dcell c 0 (tgt c r)) 0) ∗ (ampRes Y c (tgt c r) ∗ semVal (dcell c 2 (tgt c r)) 0))) (fun _ => st Y K c 0)
    (fun r _ => WP_both c (wp_dma Y K c 0 (tgt c r) (tgt_ne c r) (wpE_waitDma2_eq Variants.none (c : Thread nD τ) none Set.univ))
      (wp_dma Y K c 2 (tgt c r) (tgt_ne c r) (wpE_waitDma2_eq Variants.none (c : Thread nD τ) none Set.univ))) hops

end Cert.KernelIdeal.Run

end
-- ==== Proof.Sound.lean ====
/-
# The body

The body of one core, phase after phase, from its buffers at any contents and its share of the protocol, to the result at
the computed contents and every semaphore at zero.
-/
module

public import proofs.«01_k».proof.Proof.Phases

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem WP_step (c : Dev nD) {α β : Type} {p : P F α} {f : α → P F β} {A : sProp 𝕄} {R : α → sProp 𝕄} {Q : β → sProp 𝕄} (h : A ⊢ WP c p R) :
    A ⊢ iprop((∀ a, R a -∗ WP c (f a) Q) -∗ WP c (p >>= f) Q) := by
  unfold WP; rw [wp_bind]
  iintro HA Hk
  ihave H := h $$ HA
  iapply (wp_wand frame (wpE (defs₀ (F := F)) Variants.none (c : Thread nD τ) none) Set.univ) $$ H
  iexact Hk

theorem WP_last (c : Dev nD) {α : Type} {p : P F α} {A : sProp 𝕄} {R : α → sProp 𝕄} {Q : α → sProp 𝕄} (h : A ⊢ WP c p R) :
    A ⊢ iprop((∀ a, R a -∗ Q a) -∗ WP c p Q) := by
  unfold WP
  iintro HA Hk
  ihave H := h $$ HA
  iapply (wp_wand frame (wpE (defs₀ (F := F)) Variants.none (c : Thread nD τ) none) Set.univ) $$ H
  iexact Hk

/-! ## What the buffers hold whole -/

variable (Y : Dev nD → FVec F S128x2048 .f32)

/-- The gathered magnitudes: device `p`'s at place `p`. -/
def gAll : FVec F S32x8x128 .f32 := fun i => k0_pay38 (k0_pay36 (Y ⟨(i 0).val, (i 0).isLt⟩)) (fun | 0 => ⟨0, by decide⟩ | 1 => i 1 | 2 => i 2 : S1x8x128.Idx)
/-- The gathered column block of device `c`: device `p`'s rows are its product's. -/
def outAll (c : Dev nD) : FVec F S4096x64 .f32 := fun i =>
  col (Y ⟨(i 0).val / 128, by have h0 : (i 0).val < 4096 := (i 0).isLt; show _ < 32; omega⟩) c (fun | 0 => ⟨(i 0).val % 128, Nat.mod_lt _ (by decide)⟩ | 1 => i 1 : S128x64.Idx)
/-- The product by column blocks. -/
def yAll (c : Dev nD) : FVec F S32x128x64 .f32 := fun i =>
  blockPay (Y c) ⟨(i 0).val, (i 0).isLt⟩ (fun | 0 => ⟨0, by decide⟩ | 1 => i 1 | 2 => i 2 : S1x128x64.Idx)

theorem gAll_emb (t : Dev nD) : (fun j => gAll Y ((maxR t).emb j)) = k0_pay38 (k0_pay36 (Y t)) := by
  funext j
  show k0_pay38 (k0_pay36 (Y ⟨((maxR t).emb j 0).val, _⟩)) _ = _
  have e : ∀ (p : Dev nD) (i : S1x8x128.Idx), p = t → i = j → k0_pay38 (k0_pay36 (Y p)) i = k0_pay38 (k0_pay36 (Y t)) j := by rintro p i rfl rfl; rfl
  refine e _ _ (Fin.ext (maxR_emb t j)) (funext fun a => Fin.ext ?_)
  fin_cases a
  · have h0 : (j 0).val < 1 := (j 0).isLt
    show 0 = (j 0).val; omega
  · show ((maxR t).emb j 1).val = (j 1).val
    rw [Rect.emb_apply]; show 0 + 1 * (j 1).val = (j 1).val; omega
  · show ((maxR t).emb j 2).val = (j 2).val
    rw [Rect.emb_apply]; show 0 + 1 * (j 2).val = (j 2).val; omega

theorem yAll_emb (c t : Dev nD) : (fun j => yAll Y c ((slabR t).emb j)) = blockPay (Y c) t := by
  funext j
  show blockPay (Y c) ⟨((slabR t).emb j 0).val, _⟩ _ = _
  have e : ∀ (p : Dev nD) (i : S1x128x64.Idx), p = t → i = j → blockPay (Y c) p i = blockPay (Y c) t j := by rintro p i rfl rfl; rfl
  refine e _ _ (Fin.ext (slabR_emb t j)) (funext fun a => Fin.ext ?_)
  fin_cases a
  · have h0 : (j 0).val < 1 := (j 0).isLt
    show 0 = (j 0).val; omega
  · show ((slabR t).emb j 1).val = (j 1).val
    rw [Rect.emb_apply]; show 0 + 1 * (j 1).val = (j 1).val; omega
  · show ((slabR t).emb j 2).val = (j 2).val
    rw [Rect.emb_apply]; show 0 + 1 * (j 2).val = (j 2).val; omega

theorem outAll_emb (c t : Dev nD) : (fun j => outAll Y c ((rowR t).emb j)) = col (Y t) c := by
  funext j
  show col (Y ⟨((rowR t).emb j 0).val / 128, _⟩) c _ = _
  have e : ∀ (p : Dev nD) (i : S128x64.Idx), p = t → i = j → col (Y p) c i = col (Y t) c j := by rintro p i rfl rfl; rfl
  refine e _ _ (Fin.ext (rowR_div t j)) (funext fun a => Fin.ext ?_)
  fin_cases a
  · show ((rowR t).emb j 0).val % 128 = (j 0).val
    have h0 : (j 0).val < 128 := (j 0).isLt
    rw [rowR_emb]; omega
  · show ((rowR t).emb j 1).val = (j 1).val
    rw [Rect.emb_apply]; show 0 + 1 * (j 1).val = (j 1).val; omega

theorem join_max (c : Dev nD) : (bigSep Finset.univ fun t => maxRes Y c t) ⊢ owns (c : Thread nD τ) gM fullShare (gAll Y) := by
  refine (Entails.of_eq (bigSep_congr fun t _ => ?_)).trans
    (owns_of_rects (Val := Elt F) (c : Thread nD τ) gM fullShare maxR (fun _ _ => rfl) max_disj max_cover (gAll Y))
  unfold maxRes; rw [gAll_emb]
theorem join_row (c : Dev nD) : (bigSep Finset.univ fun t => rowRes Y c t) ⊢ owns (c : Thread nD τ) oM fullShare (outAll Y c) := by
  refine (Entails.of_eq (bigSep_congr fun t _ => ?_)).trans
    (owns_of_rects (Val := Elt F) (c : Thread nD τ) oM fullShare rowR (fun _ _ => rfl) row_disj row_cover (outAll Y c))
  unfold rowRes; rw [outAll_emb]
theorem join_slab (c : Dev nD) : (bigSep Finset.univ fun t => slabRes Y c t) ⊢ owns (c : Thread nD τ) yM fullShare (yAll Y c) := by
  refine (Entails.of_eq (bigSep_congr fun t _ => ?_)).trans
    (owns_of_rects (Val := Elt F) (c : Thread nD τ) yM fullShare slabR (fun _ _ => rfl) slab_disj slab_cover (yAll Y c))
  unfold slabRes; rw [yAll_emb]

theorem some_owns {α : Type} (A : α → sProp 𝕄) (a : α) : A a ⊢ iprop(∃ x, A x) := by iintro H; iexists a; iexact H

theorem split_max (c : Dev nD) (X : FVec F S32x8x128 .f32) :
    owns (c : Thread nD τ) gM fullShare X ⊢ (bigSep Finset.univ fun t => iprop(∃ X, owns (c : Thread nD τ) (maxM t) fullShare X) : sProp 𝕄) :=
  (owns_rects (Val := Elt F) (c : Thread nD τ) gM fullShare maxR (fun _ _ => rfl) max_disj max_cover X).trans (bigSep_mono fun t _ => some_owns (fun X => owns (c : Thread nD τ) (maxM t) fullShare X) _)
theorem split_row (c : Dev nD) (X : FVec F S4096x64 .f32) :
    owns (c : Thread nD τ) oM fullShare X ⊢ (bigSep Finset.univ fun t => iprop(∃ X, owns (c : Thread nD τ) (rowM t) fullShare X) : sProp 𝕄) :=
  (owns_rects (Val := Elt F) (c : Thread nD τ) oM fullShare rowR (fun _ _ => rfl) row_disj row_cover X).trans (bigSep_mono fun t _ => some_owns (fun X => owns (c : Thread nD τ) (rowM t) fullShare X) _)
theorem split_slab (c : Dev nD) (X : FVec F S32x128x64 .f32) :
    owns (c : Thread nD τ) yM fullShare X ⊢ (bigSep Finset.univ fun t => iprop(∃ X, owns (c : Thread nD τ) (slabM t) fullShare X) : sProp 𝕄) :=
  (owns_rects (Val := Elt F) (c : Thread nD τ) yM fullShare slabR (fun _ _ => rfl) slab_disj slab_cover X).trans (bigSep_mono fun t _ => some_owns (fun X => owns (c : Thread nD τ) (slabM t) fullShare X) _)

/-- The magnitude held whole is one share for each hop and the share kept. -/
theorem amp_toks (c : Dev nD) : owns (c : Thread nD τ) aM fullShare (k0_pay36 (Y c))
    ⊣⊢ iprop(owns (c : Thread nD τ) aM (Transfers.shareDrop fullShare 31) (k0_pay36 (Y c)) ∗ bigSep Finset.univ fun r : Fin 31 => ampRes Y c (tgt c r)) := by
  have h : (fun r : Fin 31 => ampRes Y c (tgt c r))
      = fun r : Fin 31 => (((c : Thread nD τ).loc cc0_scratch1) ↦{Transfers.shareTok fullShare 31 r} k0_pay36 (Y c) : sProp 𝕄) := funext fun r => by
    unfold ampRes; rw [hopOf_tgt]; exact owns_whole _ _ _ _
  rw [h]
  have e : ∀ q, (owns (c : Thread nD τ) aM q (k0_pay36 (Y c)) : sProp 𝕄) = (((c : Thread nD τ).loc cc0_scratch1) ↦{q} k0_pay36 (Y c)) := fun q => owns_whole _ _ _ _
  rw [e, e]
  exact Transfers.pointsTo_toks fullShare 31

/-! ## The steps between the loops -/

theorem z2 : (![0, 0] : Fin 2 → ℕ) = fun _ => 0 := funext fun a => by fin_cases a <;> rfl
theorem z3 : (![0, 0, 0] : Fin 3 → ℕ) = fun _ => 0 := funext fun a => by fin_cases a <;> rfl

theorem wp_maxStore (c : Dev nD) (y : FVec F S128x2048 .f32) :
    iprop(∃ X, owns (c : Thread nD τ) aM fullShare X) ⊢ WP c (maxStore aM y : P F PUnit) fun _ => owns (c : Thread nD τ) aM fullShare (k0_pay36 y) := by
  unfold maxStore
  iintro ⟨%X, H⟩
  iapply (WP_seq c (load_all c aM z2 inb_S8x128_S8x128_0_0 fullShare X)
    (fun v => sep_elim_right.trans (store_all c aM z2 inb_S8x128_S8x128_0_0 (X := X) (k0_pay36 y)))) $$ H

theorem wp_ownStep (c : Dev nD) (q : PosShare TreeShare) :
    iprop(slabRes Y c c ∗ (∃ X, owns (c : Thread nD τ) (rowM c) fullShare X) ∗ owns (c : Thread nD τ) aM q (k0_pay36 (Y c)) ∗ ∃ X, owns (c : Thread nD τ) (maxM c) fullShare X)
      ⊢ WP c (ownStep' c : P F PUnit) fun _ => iprop(slabRes Y c c ∗ rowRes Y c c ∗ owns (c : Thread nD τ) aM q (k0_pay36 (Y c)) ∗ maxRes Y c c) := by
  unfold ownStep' slabRes rowRes maxRes
  iintro ⟨Hs, ⟨%X, Hr⟩, Ha, ⟨%X', Hm⟩⟩
  iapply (WP_step c (load_piece c yM (slabR c) (fun _ => rfl) fullShare (blockPay (Y c) c))) $$ Hs
  iintro %v ⟨%hv, Hs⟩
  iapply (WP_step c (load_piece c oM (rowR c) (fun _ => rfl) fullShare X)) $$ Hr
  iintro %_ ⟨-, Hr⟩
  iapply (WP_step c (store_piece c oM (rowR c) (fun _ => rfl) (X := X) (k0_pay37 v))) $$ Hr
  iintro %_ Hr
  iapply (WP_step c (load_all c aM z2 inb_S8x128_S8x128_0_0 q (k0_pay36 (Y c)))) $$ Ha
  iintro %u ⟨%hu, Ha⟩
  iapply (WP_step c (load_piece c gM (maxR c) (fun _ => rfl) fullShare X')) $$ Hm
  iintro %_ ⟨-, Hm⟩
  iapply (WP_last c (store_piece c gM (maxR c) (fun _ => rfl) (X := X') (k0_pay38 u))) $$ Hm
  iintro %_ Hm
  have e : k0_pay37 v = col (Y c) c := by rw [hv]; exact cast_blockPay (Y c) c
  rw [e, hu]
  isplitl [Hs]; · iexact Hs
  isplitl [Hr]; · iexact Hr
  isplitl [Ha]; · iexact Ha
  iexact Hm

theorem wp_quant (c : Dev nD) (G : FVec F S32x8x128 .f32) (X : FVec F S4096x64 .f32) :
    iprop(owns (c : Thread nD τ) gM fullShare G ∗ owns (c : Thread nD τ) oM fullShare X)
      ⊢ WP c (quantStep oM gM : P F PUnit) fun _ => iprop(owns (c : Thread nD τ) gM fullShare G ∗ owns (c : Thread nD τ) oM fullShare (k0_pay39 G X)) := by
  unfold quantStep
  iintro ⟨Hg, Ho⟩
  iapply (WP_step c (load_all c gM z3 inb_S32x8x128_S32x8x128_0_0_0 fullShare G)) $$ Hg
  iintro %g ⟨%hg, Hg⟩
  iapply (WP_step c (load_all c oM z2 inb_S4096x64_S4096x64_0_0 fullShare X)) $$ Ho
  iintro %x ⟨%hx, Ho⟩
  iapply (WP_step c (load_all c oM z2 inb_S4096x64_S4096x64_0_0 fullShare X)) $$ Ho
  iintro %_ ⟨-, Ho⟩
  iapply (WP_last c (store_all c oM z2 inb_S4096x64_S4096x64_0_0 (X := X) (k0_pay39 g x))) $$ Ho
  iintro %_ Ho
  rw [hg, hx]
  isplitl [Hg] <;> iassumption

end Cert.KernelIdeal.Run

end
-- ==== Proof.Core.lean ====
/-
# One core's run of the body

The phases of Proof/Phases.lean in order. A core starts with its buffers at any contents, its positions on its own cells,
the tokens of the duties it pays and the credit of what it waits for, and ends with the result at the computed contents.
-/
module

public import proofs.«01_k».proof.Proof.Sound

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A resource for every cell of a device: its barrier's, and for each kind of DMA cell its own place's and one for each hop. -/
theorem bigSep_CI (c : Dev nD) (A : CI → sProp 𝕄) : bigSep Finset.univ A
    = iprop(A none ∗ (A (some (0, c)) ∗ bigSep Finset.univ fun r : Fin 31 => A (some (0, tgt c r)))
        ∗ (A (some (1, c)) ∗ bigSep Finset.univ fun r : Fin 31 => A (some (1, tgt c r)))
        ∗ (A (some (2, c)) ∗ bigSep Finset.univ fun r : Fin 31 => A (some (2, tgt c r)))
        ∗ (A (some (3, c)) ∗ bigSep Finset.univ fun r : Fin 31 => A (some (3, tgt c r)))) := by
  have hu : (Finset.univ : Finset CI) = insert none (Finset.univ.map ⟨some, Option.some_injective _⟩) := by
    ext i; cases i <;> simp
  rw [hu, bigSep_insert (by simp), bigSep_map, bigSep_univ_prod, bigSep_univ_eq_bigSepL [0, 1, 2, 3] (by decide) (by decide)]
  show iprop(A none ∗ (bigSep Finset.univ fun p => A (some (0, p))) ∗ (bigSep Finset.univ fun p => A (some (1, p)))
    ∗ (bigSep Finset.univ fun p => A (some (2, p))) ∗ (bigSep Finset.univ fun p => A (some (3, p)))) = _
  rw [bigSep_dev c (fun p => A (some (0, p))), bigSep_dev c (fun p => A (some (1, p))), bigSep_dev c (fun p => A (some (2, p))), bigSep_dev c (fun p => A (some (3, p)))]

variable (Y : Dev nD → FVec F S128x2048 .f32) (K : Dev nD × CI → ℕ)

/-- The tokens of the duties `c` pays: for each device its barrier's, its arrivals', and `c`'s own departures' to it. -/
def payToks (c : Dev nD) : sProp 𝕄 :=
  bigSep Finset.univ fun d : Dev nD => iprop(dutyTok ER (barCell d) 0 c ∗ dutyTok ER (dcell c 0 d) 0 d ∗ dutyTok ER (dcell d 1 c) 0 c
    ∗ dutyTok ER (dcell c 2 d) 0 d ∗ dutyTok ER (dcell d 3 c) 0 c)
/-- `c`'s positions on its own cells, and those tokens. -/
def linear (c : Dev nD) : sProp 𝕄 := iprop((bigSep Finset.univ fun i : CI => atPos ER (kcell (c, i)) 0 ∅ 0) ∗ payToks c)
/-- The credit of what `c` waits for and others owe. -/
def creds (c : Dev nD) : sProp 𝕄 :=
  iprop(cred (tallyAt (barCell c) () 31) ∗ bigSep Finset.univ fun r : Fin 31 =>
    iprop(cred (tallyAt (dcell c 1 (tgt c r)) () NB) ∗ cred (tallyAt (dcell c 3 (tgt c r)) () NA)))

theorem WP_upd (c : Dev nD) {α : Type} {p : P F α} {Q : α → sProp 𝕄} : iprop(|={Set.univ}=> WP c p Q) ⊢ WP c p Q := by
  unfold WP
  iintro H
  imod H
  iexact H

/-- The four cells a device has for itself carry no duty, and close at once. -/
theorem close_own (c : Dev nD) (k : Fin 4) : iprop(records Y K ∗ atPos ER (dcell c k c) 0 ∅ 0) ⊢ iprop(|={Set.univ}=> semVal (dcell c k c) 0) :=
  (sep_mono_left (inv_dma Y K c k c)).trans
    (Rounds.cell_close ER (sch Y) (Set.mem_univ (K (c, some (k, c)))) (fun h => h) (R := 0) (fun r _ => duties_own Y c k r))

section
variable {ι : Type} [DecidableEq ι] {M : Finset ι}
theorem big2 (A B : ι → sProp 𝕄) : iprop(bigSep M A ∗ bigSep M B) ⊢ bigSep M fun i => iprop(A i ∗ B i) := Entails.of_eq (bigSep_sep' M A B).symm
theorem big2' (A B : ι → sProp 𝕄) : (bigSep M fun i => iprop(A i ∗ B i)) ⊢ iprop(bigSep M A ∗ bigSep M B) := Entails.of_eq (bigSep_sep' M A B)
end

theorem slab_out (c : Dev nD) : (bigSep Finset.univ fun j : Dev nD => owns (c : Thread nD τ) (slabM j) fullShare (blockPay (Y c) j))
    ⊢ iprop(slabRes Y c c ∗ bigSep Finset.univ fun r : Fin 31 => slabRes Y c (tgt c r)) := Entails.of_eq (bigSep_dev c (slabRes Y c))

set_option maxHeartbeats 1600000 in
theorem core_run (c : Dev nD) (x : FVec F S128x4096 .f32) (w : FVec F S4096x2048 .f32) (hY : Y c = k0_pay1 x w) (W : Waits sig Unit) :
    iprop((records Y K ∗ linear c ∗ creds c ∗ levAts L lv) ∗ owes (c : Thread nD τ) (O₀ c) W
        ∗ owns (c : Thread nD τ) xM fullShare x ∗ owns (c : Thread nD τ) wM fullShare w
        ∗ (∃ X, owns (c : Thread nD τ) oM fullShare X) ∗ (∃ X, owns (c : Thread nD τ) yM fullShare X)
        ∗ (∃ X, owns (c : Thread nD τ) aM fullShare X) ∗ (∃ X, owns (c : Thread nD τ) gM fullShare X))
      ⊢ WP c (bodyAt c : P F PUnit) fun _ => iprop(
          (∃ W, owes (c : Thread nD τ) 0 W) ∗ owns (c : Thread nD τ) xM fullShare x ∗ owns (c : Thread nD τ) wM fullShare w
          ∗ owns (c : Thread nD τ) oM fullShare (k0_pay39 (gAll Y) (outAll Y c)) ∗ owns (c : Thread nD τ) yM fullShare (yAll Y c)
          ∗ owns (c : Thread nD τ) aM fullShare (k0_pay36 (Y c)) ∗ owns (c : Thread nD τ) gM fullShare (gAll Y)
          ∗ bigSep Finset.univ fun i : CI => semVal (kcell (c, i)) 0) := by
  unfold linear creds payToks
  rw [bigSep_CI c (fun i => atPos ER (kcell (c, i)) 0 ∅ 0), bigSep_CI c (fun i => semVal (kcell (c, i)) 0), bigSep_dev c (fun d : Dev nD =>
    iprop(dutyTok ER (barCell d) 0 c ∗ dutyTok ER (dcell c 0 d) 0 d ∗ dutyTok ER (dcell d 1 c) 0 c ∗ dutyTok ER (dcell c 2 d) 0 d ∗ dutyTok ER (dcell d 3 c) 0 c))]
  unfold bodyAt
  iintro ⟨⟨#HR, ⟨⟨HaB, ⟨Ha0, HA0⟩, ⟨Ha1, HA1⟩, ⟨Ha2, HA2⟩, ⟨Ha3, HA3⟩⟩, -, HT⟩, ⟨HcB, HC⟩, #Hlev⟩, HO, Hx, Hw, ⟨%o, Ho⟩, ⟨%y, Hy⟩, ⟨%a, Ha⟩, ⟨%g, Hg⟩⟩
  -- the places handed over
  ihave Hoo := (split_row c o) $$ Ho
  ihave Hoo := (Entails.of_eq (bigSep_dev c fun t => iprop(∃ X, owns (c : Thread nD τ) (rowM t) fullShare X))) $$ Hoo
  icases Hoo with ⟨Hoc, Hor⟩
  ihave Hgg := (split_max c g) $$ Hg
  ihave Hgg := (Entails.of_eq (bigSep_dev c fun t => iprop(∃ X, owns (c : Thread nD τ) (maxM t) fullShare X))) $$ Hgg
  icases Hgg with ⟨Hgc, Hgr⟩
  ihave HT := (big2' (M := Finset.univ) (fun r : Fin 31 => dutyTok ER (barCell (tgt c r)) 0 c) _) $$ HT
  icases HT with ⟨HTb, HT⟩
  ihave Hp := (big2 (M := Finset.univ) (fun r : Fin 31 => iprop(∃ X, owns (c : Thread nD τ) (rowM (tgt c r)) fullShare X)) _) $$ [Hor Hgr]
  · isplitl [Hor]; · iexact Hor
    iexact Hgr
  ihave Hp := (big2 (M := Finset.univ) (fun r : Fin 31 => dutyTok ER (barCell (tgt c r)) 0 c) _) $$ [HTb Hp]
  · isplitl [HTb]; · iexact HTb
    iexact Hp
  ihave Hp := (Entails.of_eq (sepL_hops _).symm) $$ Hp
  iapply (WP_step c (phase_sig Y K c)) $$ [Hp HO]
  · isplitl [Hp]; · iexact Hp
    unfold st; isplitr; · iexact HR
    iexists W; iexact HO
  iintro %_ ⟨-, HS⟩
  iapply (WP_step c (wp_bar Y K c)) $$ [HcB HaB HS]
  · isplitr [HS]
    · isplitl [HcB]; · iexact HcB
      isplitl [HaB]; · iexact HaB
      iexact Hlev
    iexact HS
  iintro %_ ⟨⟨Hbar, HzB⟩, HS⟩
  iapply (WP_step c (load_all c xM z2 inb_S128x4096_S128x4096_0_0 fullShare x)) $$ Hx
  iintro %v407 ⟨%h1, Hx⟩
  iapply (WP_step c (load_all c wM z2 inb_S4096x2048_S4096x2048_0_0 fullShare w)) $$ Hw
  iintro %v409 ⟨%h2, Hw⟩
  subst h1 h2
  rw [← hY]
  -- the product and the magnitude stored
  ihave Hy := (split_slab c y) $$ Hy
  ihave Hy := (Entails.of_eq (sepL_blocks _).symm) $$ Hy
  iapply (WP_step c (phase_store c (Y c))) $$ [Hy]
  · isplitl [Hy]; · iexact Hy
    iempintro
  iintro %_ ⟨Hy, -⟩
  iapply (WP_step c (wp_maxStore c (Y c))) $$ [Ha]
  · iexists a; iexact Ha
  iintro %_ Ha
  ihave Hy := (Entails.of_eq (sepL_blocks _)) $$ Hy
  ihave Hy := (slab_out Y c) $$ Hy
  icases Hy with ⟨Hyc, Hyr⟩
  ihave Ha := (amp_toks Y c).1 $$ Ha
  icases Ha with ⟨Ha, Har⟩
  -- the transfers
  unfold barPay
  ihave Hbar := (big2' (M := Finset.univ) (fun r : Fin 31 => iprop(∃ X, owns (tgt c r : Thread nD τ) (rowM c) fullShare X)) _) $$ Hbar
  icases Hbar with ⟨Hbr, Hbm⟩
  ihave HT := (big2' (M := Finset.univ) (fun r : Fin 31 => dutyTok ER (dcell c 0 (tgt c r)) 0 (tgt c r)) _) $$ HT
  icases HT with ⟨HT0, HT⟩
  ihave HT := (big2' (M := Finset.univ) (fun r : Fin 31 => dutyTok ER (dcell (tgt c r) 1 c) 0 c) _) $$ HT
  icases HT with ⟨HT1, HT⟩
  ihave HT := (big2' (M := Finset.univ) (fun r : Fin 31 => dutyTok ER (dcell c 2 (tgt c r)) 0 (tgt c r)) _) $$ HT
  icases HT with ⟨HT2, HT3⟩
  ihave H1 := (big2 (M := Finset.univ) (fun r : Fin 31 => slabRes Y c (tgt c r)) _) $$ [Hyr Hbr]
  · isplitl [Hyr]; · iexact Hyr
    iexact Hbr
  ihave H1 := (big2 (M := Finset.univ) (fun r : Fin 31 => dutyTok ER (dcell (tgt c r) 1 c) 0 c) _) $$ [HT1 H1]
  · isplitl [HT1]; · iexact HT1
    iexact H1
  ihave H1 := (big2 (M := Finset.univ) (fun r : Fin 31 => dutyTok ER (dcell c 0 (tgt c r)) 0 (tgt c r)) _) $$ [HT0 H1]
  · isplitl [HT0]; · iexact HT0
    iexact H1
  ihave H2 := (big2 (M := Finset.univ) (fun r : Fin 31 => ampRes Y c (tgt c r)) _) $$ [Har Hbm]
  · isplitl [Har]; · iexact Har
    iexact Hbm
  ihave H2 := (big2 (M := Finset.univ) (fun r : Fin 31 => dutyTok ER (dcell (tgt c r) 3 c) 0 c) _) $$ [HT3 H2]
  · isplitl [HT3]; · iexact HT3
    iexact H2
  ihave H2 := (big2 (M := Finset.univ) (fun r : Fin 31 => dutyTok ER (dcell c 2 (tgt c r)) 0 (tgt c r)) _) $$ [HT2 H2]
  · isplitl [HT2]; · iexact HT2
    iexact H2
  ihave H := (big2 (ι := Fin 31) (M := Finset.univ) _ _) $$ [H1 H2]
  · isplitl [H1]; · iexact H1
    iexact H2
  ihave H := (Entails.of_eq (sepL_hops _).symm) $$ H
  iapply (WP_step c (phase_send Y K c)) $$ [H HS]
  · isplitl [H]; · iexact H
    iexact HS
  iintro %_ ⟨HD, HS⟩
  -- the own block and magnitude
  iapply (WP_step c (wp_ownStep Y c (Transfers.shareDrop fullShare 31))) $$ [Hyc Hoc Ha Hgc]
  · isplitl [Hyc]; · iexact Hyc
    isplitl [Hoc]; · iexact Hoc
    isplitl [Ha]; · iexact Ha
    iexact Hgc
  iintro %_ ⟨Hyc, Hoc, Ha, Hgc⟩
  -- the arrivals
  ihave HC := (big2' (M := Finset.univ) (fun r : Fin 31 => cred (tallyAt (dcell c 1 (tgt c r)) () NB)) _) $$ HC
  icases HC with ⟨HC1, HC3⟩
  ihave H := (big2 (M := Finset.univ) (fun r : Fin 31 => cred (tallyAt (dcell c 3 (tgt c r)) () NA)) (fun r : Fin 31 => atPos ER (dcell c 3 (tgt c r)) 0 ∅ 0)) $$ [HC3 HA3]
  · isplitl [HC3]; · iexact HC3
    iexact HA3
  ihave H := (Entails.of_eq (sepL_hops _).symm) $$ H
  iapply (WP_step c (phase_max Y K c)) $$ [H HS]
  · isplitl [H]; · iexact H
    iexact HS
  iintro %_ ⟨H, HS⟩
  ihave H := (Entails.of_eq (sepL_hops _)) $$ H
  ihave H := (big2' (M := Finset.univ) (fun r : Fin 31 => maxRes Y c (tgt c r)) _) $$ H
  icases H with ⟨Hgr, HZ3⟩
  ihave H := (big2 (M := Finset.univ) (fun r : Fin 31 => cred (tallyAt (dcell c 1 (tgt c r)) () NB)) (fun r : Fin 31 => atPos ER (dcell c 1 (tgt c r)) 0 ∅ 0)) $$ [HC1 HA1]
  · isplitl [HC1]; · iexact HC1
    iexact HA1
  ihave H := (Entails.of_eq (sepL_hops _).symm) $$ H
  iapply (WP_step c (phase_block Y K c)) $$ [H HS]
  · isplitl [H]; · iexact H
    iexact HS
  iintro %_ ⟨H, HS⟩
  ihave H := (Entails.of_eq (sepL_hops _)) $$ H
  ihave H := (big2' (M := Finset.univ) (fun r : Fin 31 => rowRes Y c (tgt c r)) _) $$ H
  icases H with ⟨Hor, HZ1⟩
  ihave Hg := (Entails.of_eq (bigSep_dev c (maxRes Y c)).symm) $$ [Hgc Hgr]
  · isplitl [Hgc]; · iexact Hgc
    iexact Hgr
  ihave Hg := (join_max Y c) $$ Hg
  ihave Ho := (Entails.of_eq (bigSep_dev c (rowRes Y c)).symm) $$ [Hoc Hor]
  · isplitl [Hoc]; · iexact Hoc
    iexact Hor
  ihave Ho := (join_row Y c) $$ Ho
  iapply (WP_step c (wp_quant c (gAll Y) (outAll Y c))) $$ [Hg Ho]
  · isplitl [Hg]; · iexact Hg
    iexact Ho
  iintro %_ ⟨Hg, Ho⟩
  -- a device's own four cells, which carry nothing
  iapply (WP_upd c)
  imod (close_own Y K c 0) $$ [Ha0] with Hz0
  · isplitr; · iexact HR
    iexact Ha0
  imod (close_own Y K c 1) $$ [Ha1] with Hz1
  · isplitr; · iexact HR
    iexact Ha1
  imod (close_own Y K c 2) $$ [Ha2] with Hz2
  · isplitr; · iexact HR
    iexact Ha2
  imod (close_own Y K c 3) $$ [Ha3] with Hz3
  · isplitr; · iexact HR
    iexact Ha3
  imodintro
  -- the departures
  ihave HD := (Entails.of_eq (sepL_hops _)) $$ HD
  ihave HD := (big2' (M := Finset.univ) (fun r : Fin 31 => cred (tallyAt (dcell c 0 (tgt c r)) () NB)) _) $$ HD
  icases HD with ⟨HD0, HD2⟩
  ihave H1 := (big2 (M := Finset.univ) (fun r : Fin 31 => cred (tallyAt (dcell c 0 (tgt c r)) () NB)) (fun r : Fin 31 => atPos ER (dcell c 0 (tgt c r)) 0 ∅ 0)) $$ [HD0 HA0]
  · isplitl [HD0]; · iexact HD0
    iexact HA0
  ihave H2 := (big2 (M := Finset.univ) (fun r : Fin 31 => cred (tallyAt (dcell c 2 (tgt c r)) () NA)) (fun r : Fin 31 => atPos ER (dcell c 2 (tgt c r)) 0 ∅ 0)) $$ [HD2 HA2]
  · isplitl [HD2]; · iexact HD2
    iexact HA2
  ihave H := (big2 (ι := Fin 31) (M := Finset.univ) _ _) $$ [H1 H2]
  · isplitl [H1]; · iexact H1
    iexact H2
  ihave H := (Entails.of_eq (sepL_hops _).symm) $$ H
  iapply (WP_last c (phase_depart Y K c)) $$ [H HS]
  · isplitl [H]; · iexact H
    iexact HS
  iintro %_ ⟨H, HS⟩
  ihave H := (Entails.of_eq (sepL_hops _)) $$ H
  ihave H := (big2' (M := Finset.univ) (fun r : Fin 31 => iprop(slabRes Y c (tgt c r) ∗ semVal (dcell c 0 (tgt c r)) 0)) _) $$ H
  icases H with ⟨H0, H2⟩
  ihave H0 := (big2' (M := Finset.univ) (fun r : Fin 31 => slabRes Y c (tgt c r)) _) $$ H0
  icases H0 with ⟨Hyr, HZ0⟩
  ihave H2 := (big2' (M := Finset.univ) (fun r : Fin 31 => ampRes Y c (tgt c r)) _) $$ H2
  icases H2 with ⟨Har, HZ2⟩
  ihave Hy := (Entails.of_eq (bigSep_dev c (slabRes Y c)).symm) $$ [Hyc Hyr]
  · isplitl [Hyc]; · iexact Hyc
    iexact Hyr
  ihave Hy := (join_slab Y c) $$ Hy
  ihave Ha := (amp_toks Y c).2 $$ [Ha Har]
  · isplitl [Ha]; · iexact Ha
    iexact Har
  unfold st
  icases HS with ⟨-, HO⟩
  isplitl [HO]; · iexact HO
  isplitl [Hx]; · iexact Hx
  isplitl [Hw]; · iexact Hw
  isplitl [Ho]; · iexact Ho
  isplitl [Hy]; · iexact Hy
  isplitl [Ha]; · iexact Ha
  isplitl [Hg]; · iexact Hg
  isplitl [HzB]; · iexact HzB
  isplitl [Hz0 HZ0]
  · isplitl [Hz0]; · iexact Hz0
    iexact HZ0
  isplitl [Hz1 HZ1]
  · isplitl [Hz1]; · iexact Hz1
    iexact HZ1
  isplitl [Hz2 HZ2]
  · isplitl [Hz2]; · iexact Hz2
    iexact HZ2
  isplitl [Hz3]; · iexact Hz3
  iexact HZ3

end Cert.KernelIdeal.Run

end
-- ==== Proof.Start.lean ====
/-
# The launch

Ghost state for every cell is minted at once, the semaphores' invariants are allocated for all devices together, and the
tokens are dealt to the devices that pay them. A device starts from its share and ends with its semaphores at zero.
-/
module

public import proofs.«01_k».proof.Proof.Core
public import proofs.«01_k».proof.Proof.Gen.KernelIdeal.Frame
public import Idealize.ShloMosaic.Lib.Pipeline.Launch
public import Idealize.ShloMosaic.Lib.Pipeline.Kit

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens -/

/-- The kernel's own semaphores, by kind and peer. -/
def osem (kp : Fin 4 × Dev nD) : SemLoc sig := .dma (dsem kp.1 kp.2)

theorem ownSemFacts : Pipeline.OwnSemFacts cfg0.spec osem where
  isScoped := by decide +kernel
  inj := by
    rintro ⟨k, p⟩ ⟨k', p'⟩ h
    have h' : dsem k p = dsem k' p' := SemLoc.dma.inj h
    exact Prod.ext (by show k = k'; rw [← kindOf_dsem k p, h', kindOf_dsem]) (by show p = p'; rw [← peerOf_dsem k p, h', peerOf_dsem])
  disj := by
    rintro ⟨k, p⟩ w s h
    have h' : dsem k p = (cfg0.spec w).sem s := SemLoc.dma.inj h
    have h3 : 3 ≤ (dsem k p : Fin 131).val := dsem_ge k p
    rw [h'] at h3
    revert h3
    fin_cases w <;> fin_cases s <;> decide

theorem kcell_injective : Function.Injective (kcell : Dev nD × CI → GSem nD τ sig) := by
  rintro ⟨c, _ | ⟨k, p⟩⟩ ⟨c', _ | ⟨k', p'⟩⟩ h
  · exact congrArg (fun x => ((x, none) : Dev nD × CI)) (barCell_inj h)
  · exact absurd (congrArg Prod.snd h) (fun h => by cases h)
  · exact absurd (congrArg Prod.snd h) (fun h => by cases h)
  · obtain ⟨rfl, rfl, rfl⟩ := dcell_inj h; rfl
def allCells : Finset (GSem nD τ sig) := Finset.univ.map ⟨kcell, kcell_injective⟩

/-- The duty tokens of a device's cells, one of each kind for each other device and (unused) for itself. -/
def tokOf (x : Dev nD × Dev nD × Option (Fin 4)) : GSem nD τ sig × ℕ × Dev nD :=
  match x.2.2 with | none => (barCell x.1, 0, x.2.1) | some k => (dcell x.1 k x.2.1, 0, x.2.1)
theorem tokOf_injective : Function.Injective tokOf := by
  rintro ⟨c, d, _ | k⟩ ⟨c', d', _ | k'⟩ h
  · exact Prod.ext (barCell_inj (congrArg Prod.fst h)) (Prod.ext (congrArg (fun y => y.2.2) h) rfl)
  · exact absurd (congrArg (fun y => y.1.2) h) (fun h => by cases h)
  · exact absurd (congrArg (fun y => y.1.2) h) (fun h => by cases h)
  · obtain ⟨rfl, rfl, rfl⟩ := dcell_inj (congrArg Prod.fst h); rfl
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of `c`'s cells. -/
def toks (c : Dev nD) : sProp 𝕄 :=
  bigSep Finset.univ fun d : Dev nD => iprop(dutyTok ER (barCell c) 0 d ∗ dutyTok ER (dcell c 0 d) 0 d ∗ dutyTok ER (dcell c 1 d) 0 d
    ∗ dutyTok ER (dcell c 2 d) 0 d ∗ dutyTok ER (dcell c 3 d) 0 d)

theorem bigSep_opt4 (A : Option (Fin 4) → sProp 𝕄) : bigSep Finset.univ A = iprop(A none ∗ A (some 0) ∗ A (some 1) ∗ A (some 2) ∗ A (some 3)) :=
  bigSep_univ_eq_bigSepL [none, some 0, some 1, some 2, some 3] (by decide) (by decide) A

theorem bigSep_toks : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_prod]; unfold toks
  exact bigSep_congr fun d _ => by rw [bigSep_opt4]; rfl

/-- Tokens go to the device that pays: its own departures' stay, the barriers' and the arrivals' go to the other side. -/
theorem toks_dealt : (bigSep Finset.univ fun c : Dev nD => (toks c : sProp 𝕄)) = bigSep Finset.univ fun c : Dev nD => payToks c := by
  unfold toks payToks
  simp only [bigSep_sep']
  rw [bigSep_univ_comm (fun c d : Dev nD => (dutyTok ER (barCell c) 0 d : sProp 𝕄)),
    bigSep_univ_comm (fun c d : Dev nD => (dutyTok ER (dcell c 1 d) 0 d : sProp 𝕄)),
    bigSep_univ_comm (fun c d : Dev nD => (dutyTok ER (dcell c 3 d) 0 d : sProp 𝕄))]

theorem bigSep_optPair (A : CI → sProp 𝕄) : bigSep Finset.univ A = iprop(A none ∗ bigSep Finset.univ fun kp : Fin 4 × Dev nD => A (some kp)) := by
  have hu : (Finset.univ : Finset CI) = insert none (Finset.univ.map ⟨some, Option.some_injective _⟩) := by
    ext i; cases i <;> simp
  rw [hu, bigSep_insert (by simp), bigSep_map]; rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores at zero, own and barrier. -/
theorem sems0_eq (c : Dev nD) :
    (bigSep Finset.univ fun i : CI => (semVal (kcell (c, i)) 0 : sProp 𝕄)) = iprop(unscopedSems0 c ∗ Pipeline.ownSems0 osem c) := by
  rw [bigSep_optPair, unscopedSems0_eq]; rfl

section Global
variable (Y : Dev nD → FVec F S128x2048 .f32)

/-- What the launch deals device `c`, and what the global step makes of it. -/
def G (c : Dev nD) : sProp 𝕄 :=
  iprop((bigSep Finset.univ fun i : CI => roundState ER (sch Y) (kcell (c, i)) 0)
    ∗ (bigSep Finset.univ fun i : CI => iprop(atPos ER (kcell (c, i)) 0 ∅ 0 ∗ reached ER (kcell (c, i)) 0)) ∗ toks c)
def G' (c : Dev nD) : sProp 𝕄 := iprop(∃ K, records Y K ∗ linear c)

theorem fund_cells : BI.own (ER (initOf allCells allToks)) ⊢ (|==> bigSep Finset.univ (G Y) : sProp 𝕄) := by
  have hX (A : GSem nD τ sig → sProp 𝕄) : bigSep allCells A = bigSep Finset.univ fun c : Dev nD => bigSep Finset.univ fun i : CI => A (kcell (c, i)) := by
    unfold allCells; rw [bigSep_map, bigSep_univ_prod]; rfl
  iintro HX
  imod (Rounds.fund ER (sch Y) allCells allToks) $$ HX with ⟨Hst, Hr, Hat, Htok⟩
  imodintro
  ihave Hst := (Entails.of_eq (hX fun g => roundState ER (sch Y) g 0)) $$ Hst
  ihave Hat := (Entails.of_eq (hX fun g => atPos ER g 0 ∅ 0)) $$ Hat
  ihave Hr := (Entails.of_eq (hX fun g => reached ER g 0)) $$ Hr
  ihave Htok := (Entails.of_eq bigSep_toks) $$ Htok
  unfold G; simp only [bigSep_sep']
  isplitl [Hst]; · iexact Hst
  isplitl [Hat Hr]
  · isplitl [Hat] <;> iassumption
  iexact Htok

/-- One device's invariants allocated. -/
theorem core_alloc (c : Dev nD) :
    iprop(Pipeline.ownSems0 (Ix := Unit) (Name := ℕ) (U := UU) (Lvl := ℕ) (Val := Elt F) (τ := τ) osem c ∗ unscopedSems0 c ∗ G Y c)
      ⊢ |={Set.univ}=> iprop((bigSep Finset.univ fun i : CI => iprop(∃ κ : ℕ, cellInv ER (sch Y) κ (kcell (c, i))))
          ∗ (bigSep Finset.univ fun i : CI => iprop(atPos ER (kcell (c, i)) 0 ∅ 0 ∗ reached ER (kcell (c, i)) 0)) ∗ toks c) := by
  have halloc : iprop((bigSep Finset.univ fun i : CI => semVal (kcell (c, i)) 0) ∗ bigSep Finset.univ fun i : CI => roundState ER (sch Y) (kcell (c, i)) 0)
      ⊢ (|={Set.univ}=> bigSep Finset.univ fun i : CI => iprop(∃ κ : ℕ, cellInv ER (sch Y) κ (kcell (c, i))) : sProp 𝕄) := by
    rw [← bigSep_sep']
    exact (bigSep_mono fun i _ => (Rounds.body_intro ER (sch Y) (kcell (c, i))).trans inv_alloc).trans (bigSep_fupd _ _)
  unfold G
  iintro ⟨Hos, Hus, Hst, Hat, Htok⟩
  ihave Hv := (Entails.of_eq (sems0_eq c).symm) $$ [Hos Hus]
  · isplitl [Hus] <;> iassumption
  imod halloc $$ [Hv Hst] with Hinv
  · isplitl [Hv] <;> iassumption
  imodintro
  isplitl [Hinv]; · iexact Hinv
  isplitl [Hat]; · iexact Hat
  iexact Htok

theorem share_all {I : Type} [DecidableEq I] {S : Finset I} {R : sProp 𝕄} [BI.Persistent R] {A : I → sProp 𝕄} :
    iprop(R ∗ bigSep S A) ⊢ bigSep S fun i => iprop(R ∗ A i) :=
  (sep_mono_left (BI.bigSep_of_persistent S R)).trans (Entails.of_eq (bigSep_sep' S _ _).symm)

theorem G'_intro (K : Dev nD × CI → ℕ) (c : Dev nD) : iprop(records Y K ∗ linear c) ⊢ G' Y c := by
  unfold G'; iintro H; iexists K; iexact H

theorem regroup :
    (bigSep Finset.univ fun c : Dev nD => iprop((bigSep Finset.univ fun i : CI => iprop(∃ κ : ℕ, cellInv ER (sch Y) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' Y) := by
  simp only [bigSep_sep']
  rw [← bigSep_univ_prod (fun ci : Dev nD × CI => iprop(∃ κ : ℕ, cellInv ER (sch Y) κ (kcell ci))),
    ← bigSep_univ_prod (fun ci : Dev nD × CI => (reached ER (kcell ci) 0 : sProp 𝕄)), toks_dealt]
  iintro ⟨HI, ⟨Hat, #HR⟩, Htok⟩
  ihave HK := (BI.bigSep_exists_pi Finset.univ (fun (ci : Dev nD × CI) (κ : ℕ) => (cellInv ER (sch Y) κ (kcell ci) : sProp 𝕄))) $$ HI
  icases HK with ⟨%K, #HI⟩
  iapply ((share_all (R := records Y K) (A := linear)).trans (bigSep_mono fun c _ => G'_intro Y K c))
  isplitr
  · unfold records; isplitl; · iexact HI
    iexact HR
  · unfold linear; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c
      ∗ unscopedSems0 c ∗ G Y c) : sProp 𝕄) ⊢ |={Set.univ}=> bigSep Finset.univ (G' Y) :=
  ((bigSep_mono fun c _ => core_alloc Y c).trans (bigSep_fupd _ _)).trans (BI.fupd_mono (regroup Y))

end Global

/-! ## The credit at launch -/

theorem sum_apply {ι : Type} (f : ι → CellTallies nD τ sig Unit) (g : GSem nD τ sig) (u : Unit) :
    ∀ l : List ι, (l.map f).sum g u = (l.map fun i => f i g u).sum
  | [] => rfl
  | i :: is => by rw [List.map_cons, List.sum_cons, List.map_cons, List.sum_cons, Pi.add_apply, Finsupp.add_apply, sum_apply f g u is]

theorem sum_zero {ι : Type} (f : ι → ℕ) (l : List ι) (h : ∀ i, f i = 0) : (l.map f).sum = 0 := by
  rw [show f = fun _ => 0 from funext h]; simp

theorem sum_ite {ι : Type} (p : ι → Prop) [DecidablePred p] (n : ℕ) (l : List ι) :
    (l.map fun i => if p i then n else 0).sum = (l.map fun i => if p i then 1 else 0).sum * n := by
  rw [← List.sum_map_mul_right]
  exact congrArg (fun f => (l.map f).sum) (funext fun i => by split <;> simp)

theorem at_bar (t e : Dev nD) (n : ℕ) : (tallyAt (barCell t) () n : CellTallies nD τ sig Unit) (barCell e) () = if t = e then n else 0 := by
  rw [tallyAt_apply]
  by_cases h : t = e
  · subst h; rw [if_pos ⟨rfl, rfl⟩, if_pos rfl]
  · rw [if_neg (fun h' => h (barCell_inj h'.1).symm), if_neg h]
theorem at_dma (t e : Dev nD) (k : Fin 4) (c s : Dev nD) (n : ℕ) (k' : Fin 4) :
    (tallyAt (dcell t k c) () n : CellTallies nD τ sig Unit) (dcell e k' s) () = if t = e ∧ k = k' ∧ c = s then n else 0 := by
  rw [tallyAt_apply]
  by_cases h : t = e ∧ k = k' ∧ c = s
  · obtain ⟨rfl, rfl, rfl⟩ := h; rw [if_pos ⟨rfl, rfl⟩, if_pos ⟨rfl, rfl, rfl⟩]
  · rw [if_neg (fun h' => h (by obtain ⟨h1, h2, h3⟩ := dcell_inj h'.1; exact ⟨h1.symm, h2.symm, h3.symm⟩)), if_neg h]
theorem bar_at_dma (t e : Dev nD) (k : Fin 4) (s : Dev nD) (n : ℕ) : (tallyAt (barCell t) () n : CellTallies nD τ sig Unit) (dcell e k s) () = 0 := by
  rw [tallyAt_ne_cell (fun h => absurd (congrArg Prod.snd h) (fun h => by cases h))]; rfl
theorem dma_at_bar (t e : Dev nD) (k : Fin 4) (s : Dev nD) (n : ℕ) : (tallyAt (dcell t k s) () n : CellTallies nD τ sig Unit) (barCell e) () = 0 := by
  rw [tallyAt_ne_cell (fun h => absurd (congrArg Prod.snd h) (fun h => by cases h))]; rfl

theorem count_bar : ∀ e : Dev nD, (∑ d : Dev nD, (hops.map fun r => if tgt d r = e then 1 else 0).sum) = 31 := by decide +kernel
theorem count_dma : ∀ (e : Dev nD) (r : Fin 31), (hops.map fun r' => if tgt (tgt e r) r' = e then 1 else 0).sum = 1 := by decide +kernel

theorem owed_bar (d e : Dev nD) : O₀ d (barCell e) () = (hops.map fun r => if tgt d r = e then 1 else 0).sum := by
  unfold O₀ sendOwed sigOwed
  rw [Pi.add_apply, Finsupp.add_apply, sum_apply, sum_apply, sum_zero _ _ (fun r => by rw [Pi.add_apply, Finsupp.add_apply, dma_at_bar, dma_at_bar]), Nat.zero_add]
  exact congrArg (fun f => (hops.map f).sum) (funext fun r => at_bar _ _ _)
theorem owed_block (d e s : Dev nD) : O₀ d (dcell e 1 s) () = if d = s then (hops.map fun r => if tgt d r = e then 1 else 0).sum * NB else 0 := by
  unfold O₀ sendOwed sigOwed
  rw [Pi.add_apply, Finsupp.add_apply, sum_apply, sum_apply, sum_zero (fun r => (tallyAt (barCell (tgt d r)) () 1 : CellTallies nD τ sig Unit) (dcell e 1 s) ()) _ (fun r => bar_at_dma _ _ _ _ _), Nat.add_zero]
  by_cases h : d = s
  · subst h; rw [if_pos rfl, ← sum_ite]
    exact congrArg (fun f => (hops.map f).sum) (funext fun r => by rw [Pi.add_apply, Finsupp.add_apply, at_dma, at_dma]; simp)
  · rw [if_neg h]; exact sum_zero _ _ fun r => by rw [Pi.add_apply, Finsupp.add_apply, at_dma, at_dma]; simp [h]
theorem owed_max (d e s : Dev nD) : O₀ d (dcell e 3 s) () = if d = s then (hops.map fun r => if tgt d r = e then 1 else 0).sum * NA else 0 := by
  unfold O₀ sendOwed sigOwed
  rw [Pi.add_apply, Finsupp.add_apply, sum_apply, sum_apply, sum_zero (fun r => (tallyAt (barCell (tgt d r)) () 1 : CellTallies nD τ sig Unit) (dcell e 3 s) ()) _ (fun r => bar_at_dma _ _ _ _ _), Nat.add_zero]
  by_cases h : d = s
  · subst h; rw [if_pos rfl, ← sum_ite]
    exact congrArg (fun f => (hops.map f).sum) (funext fun r => by rw [Pi.add_apply, Finsupp.add_apply, at_dma, at_dma]; simp)
  · rw [if_neg h]; exact sum_zero _ _ fun r => by rw [Pi.add_apply, Finsupp.add_apply, at_dma, at_dma]; simp [h]

theorem launch_bar (e : Dev nD) :
    tallyOn (barCell e) (launchCredit (Pipeline.owing O₀) 0 (barCell e)) = (tallyAt (barCell e) () 31 : CellTallies nD τ sig Unit) := by
  unfold tallyAt; refine congrArg _ (Finsupp.ext fun u => ?_); cases u
  rw [Pipeline.launchCredit_owing, Finsupp.single_eq_same, Finset.sum_congr rfl fun d _ => owed_bar d e, count_bar]
theorem launch_block (e : Dev nD) (r : Fin 31) :
    tallyOn (dcell e 1 (tgt e r)) (launchCredit (Pipeline.owing O₀) 0 (dcell e 1 (tgt e r))) = (tallyAt (dcell e 1 (tgt e r)) () NB : CellTallies nD τ sig Unit) := by
  unfold tallyAt; refine congrArg _ (Finsupp.ext fun u => ?_); cases u
  rw [Pipeline.launchCredit_owing, Finsupp.single_eq_same, Finset.sum_congr rfl fun d _ => owed_block d e (tgt e r),
    Finset.sum_ite_eq' Finset.univ (tgt e r), if_pos (Finset.mem_univ _), count_dma, Nat.one_mul]
theorem launch_max (e : Dev nD) (r : Fin 31) :
    tallyOn (dcell e 3 (tgt e r)) (launchCredit (Pipeline.owing O₀) 0 (dcell e 3 (tgt e r))) = (tallyAt (dcell e 3 (tgt e r)) () NA : CellTallies nD τ sig Unit) := by
  unfold tallyAt; refine congrArg _ (Finsupp.ext fun u => ?_); cases u
  rw [Pipeline.launchCredit_owing, Finsupp.single_eq_same, Finset.sum_congr rfl fun d _ => owed_max d e (tgt e r),
    Finset.sum_ite_eq' Finset.univ (tgt e r), if_pos (Finset.mem_univ _), count_dma, Nat.one_mul]

def csem (i : CI) : SemLoc sig := (kcell ((0 : Dev nD), i)).2
theorem csem_injective : Function.Injective csem := fun i j h => by
  have : kcell ((0 : Dev nD), i) = kcell (0, j) := Prod.ext (by cases i <;> cases j <;> rfl) h
  exact congrArg Prod.snd (kcell_injective this)

theorem creds_cells (c : Dev nD) : (Pipeline.launchCred O₀ c : sProp 𝕄)
    ⊢ bigSep Finset.univ fun i : CI => cred (tallyOn (kcell (c, i)) (launchCredit (Pipeline.owing O₀) 0 (kcell (c, i)))) := by
  unfold Pipeline.launchCred
  refine (bigSep_subset (Finset.subset_univ (Finset.univ.map ⟨csem, csem_injective⟩))).trans ?_
  rw [bigSep_map]
  exact Entails.of_eq (bigSep_congr fun i _ => by cases i <;> rfl)

theorem creds_intro (c : Dev nD) : (Pipeline.launchCred O₀ c : sProp 𝕄) ⊢ creds c := by
  refine (creds_cells c).trans ?_
  rw [bigSep_CI c]; unfold creds
  iintro ⟨HB, -, ⟨-, H1⟩, -, -, H3⟩
  isplitl [HB]
  · iapply (Entails.of_eq (congrArg cred (launch_bar c))); iexact HB
  iapply (big2 (M := Finset.univ) (fun r : Fin 31 => cred (tallyAt (dcell c 1 (tgt c r)) () NB)) (fun r : Fin 31 => cred (tallyAt (dcell c 3 (tgt c r)) () NA)))
  isplitl [H1]
  · iapply (Entails.of_eq (bigSep_congr fun (r : Fin 31) _ => congrArg cred (launch_block c r))); iexact H1
  · iapply (Entails.of_eq (bigSep_congr fun (r : Fin 31) _ => congrArg cred (launch_max c r))); iexact H3

end Cert.KernelIdeal.Run

end
-- ==== Proof.Whole.lean ====
/-
# The whole run

The pipeline's proof data for the kernel's one point, its body obligation from `core_run`, and the run of @main on the mesh
of 32 devices: it terminates, every device's result array holds the computed contents, the arguments are unchanged and every
semaphore is at zero.
-/
module

public import proofs.«01_k».proof.Proof.Start
public import proofs.«01_k».proof.Proof.Gen.KernelIdeal.Points
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- Device `c`'s block of `x` and its `w`, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
/-- Every device's product, and `c`'s result. -/
def prods (c : Dev nD) : FVec F S128x2048 .f32 := k0_pay1 (xstg m ρ c) (wstg m ρ c)
def outAt (c : Dev nD) : (cc0_stg2_0 : Ref sig .tc).ty.Contents (Elt F) := k0_pay39 (gAll (prods m ρ)) (outAll (prods m ρ) c)

/-! ## The pipeline's proof data -/

def start (c : Dev nD) : sProp 𝕄 := iprop(G' (prods m ρ) c ∗ creds c ∗ levAts L lv)
def pre₀ (c : Dev nD) : sProp 𝕄 := iprop(start m ρ c ∗ Pipeline.scopedRest cfg0.spec c)
def post₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => pre₀ m ρ c
    | ⟨_ + 1, _⟩ => post₁ c
  q _ := fullShare
  owed t := match t with
    | ⟨0, _⟩ => O₀ c
    | ⟨_ + 1, _⟩ => 0

def t₀ : Fin cfg0.N := t0_0
theorem fetch_0 : (cfg0.win (0 : Fin 3)).fetch t₀ = true := rfl
theorem fetch_1 : (cfg0.win (1 : Fin 3)).fetch t₀ = true := rfl

theorem before_x (c : Dev nD) (d) : (dats m ρ 0 c).before (0 : Fin 3) t₀ d = xstg m ρ c := by
  unfold Dat.before; rw [if_pos fetch_0]; rfl
theorem before_w (c : Dev nD) (d) : (dats m ρ 0 c).before (1 : Fin 3) t₀ d = wstg m ρ c := by
  unfold Dat.before; rw [if_pos fetch_1]; rfl

/-! ## The body's obligation -/

/-- A whole buffer owned is its points-to. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owns_any (c : Dev nD) (b : Ref sig .tc) :
    (iprop(∃ f : Buf (Elt F) ((c : Thread nD τ).loc b), (((c : Thread nD τ).loc b) ↦{fullShare} f)) : sProp 𝕄)
      ⊢ iprop(∃ X, owns (c : Thread nD τ) (Memref.whole b) fullShare X) := by
  simp only [owns_whole]
  iintro ⟨%f, H⟩
  iexists f; iexists f; isplitr; · (ipureintro; rfl)
  iexact H
theorem any_owns (c : Dev nD) (b : Ref sig .tc) (X : b.ty.Contents (Elt F)) :
    (owns (c : Thread nD τ) (Memref.whole b) fullShare X : sProp 𝕄)
      ⊢ iprop(∃ f : Buf (Elt F) ((c : Thread nD τ).loc b), (((c : Thread nD τ).loc b) ↦{fullShare} f)) := by
  simp only [owns_whole]
  iintro ⟨%f, -, H⟩
  iexists f; iexact H

def bodyPre (c : Dev nD) : sProp 𝕄 :=
  iprop(pre₀ m ρ c ∗ (dats m ρ 0 c).owesAt () t₀.castSucc
    ∗ (∃ d, owns (c : Thread nD τ) xM fullShare ((dats m ρ 0 c).before (0 : Fin 3) t₀ d))
    ∗ (∃ d, owns (c : Thread nD τ) wM fullShare ((dats m ρ 0 c).before (1 : Fin 3) t₀ d))
    ∗ (∃ d, owns (c : Thread nD τ) oM fullShare ((dats m ρ 0 c).before (2 : Fin 3) t₀ d)))
def bodyPost (c : Dev nD) : sProp 𝕄 :=
  iprop(post₁ c ∗ (dats m ρ 0 c).owesAt () t₀.succ ∗ owns (c : Thread nD τ) xM fullShare (xstg m ρ c) ∗ owns (c : Thread nD τ) wM fullShare (wstg m ρ c)
    ∗ owns (c : Thread nD τ) oM fullShare (outAt m ρ c))

theorem sound_body (c : Dev nD) : bodyPre m ρ c ⊢ WP c (bodyAt c : P F PUnit) fun _ => bodyPost m ρ c := by
  unfold bodyPre bodyPost pre₀ post₁ start G' Dat.owesAt Pipeline.owesWithin
  rw [scopedRest0_eq, show (dats m ρ 0 c).owed t₀.castSucc = O₀ c from rfl, show (dats m ρ 0 c).owed t₀.succ = 0 from rfl]
  iintro ⟨⟨⟨⟨%K, HR, HL⟩, HC, Hlev⟩, Hy, Ha, Hg⟩, ⟨%W, -, HO⟩, ⟨%d0, Hx⟩, ⟨%d1, Hw⟩, ⟨%d2, Ho⟩⟩
  rw [before_x, before_w]
  iapply (WP_last c (core_run (prods m ρ) K c (xstg m ρ c) (wstg m ρ c) rfl W)) $$ [HR HL HC Hlev Hy Ha Hg HO Hx Hw Ho]
  · isplitl [HR HL HC Hlev]
    · isplitl [HR]; · iexact HR
      isplitl [HL]; · iexact HL
      isplitl [HC]; · iexact HC
      iexact Hlev
    isplitl [HO]; · iexact HO
    isplitl [Hx]; · iexact Hx
    isplitl [Hw]; · iexact Hw
    isplitl [Ho]; · iexists _; iexact Ho
    isplitl [Hy]; · iapply (owns_any c cc0_scratch0); iexact Hy
    isplitl [Ha]; · iapply (owns_any c cc0_scratch1); iexact Ha
    iapply (owns_any c cc0_scratch2); iexact Hg
  iintro %_ ⟨⟨%W', HO⟩, Hx, Hw, Ho, Hy, Ha, Hg, HZ⟩
  ihave HZ := (Entails.of_eq (sems0_eq c)) $$ HZ
  icases HZ with ⟨HZu, HZo⟩
  isplitl [HZu HZo Hy Ha Hg]
  · isplitl [HZu]; · iexact HZu
    isplitl [HZo]; · iexact HZo
    isplitl [Hy]; · iapply (any_owns c cc0_scratch0 (yAll (prods m ρ) c)); iexact Hy
    isplitl [Ha]; · iapply (any_owns c cc0_scratch1 (k0_pay36 (prods m ρ c))); iexact Ha
    iapply (any_owns c cc0_scratch2 (gAll (prods m ρ))); iexact Hg
  isplitl [HO]
  · iexists W'
    isplitr; · ipureintro; exact fun _ _ => Or.inl trivial
    iexact HO
  isplitl [Hx]; · iexact Hx
  isplitl [Hw]; · iexact Hw
  iexact Ho

theorem bodyAt0_eq : bodyAt0 (F := F) t₀ = cc0_body (F := F) xM (Memref.isWhole_whole _) wM (Memref.isWhole_whole _) oM (Memref.isWhole_whole _) yM (Memref.isWhole_whole _)
      aM (Memref.isWhole_whole _) gM (Memref.isWhole_whole _) cc0_scratch3 cc0_scratch4 cc0_scratch5 cc0_scratch6 := by
  unfold bodyAt0
  congr 1

theorem WP_device (c : Dev nD) {α : Type} (f : Dev nD → P F α) (Q : α → sProp 𝕄) : WP c (f c) Q ⊢ WP c (Prog.lift .deviceId >>= f) Q := by
  unfold WP
  simp only [Prog.lift, Prog.bind_op, Prog.bind_ret, wp_deviceId]
  exact Entails.of_eq rfl

theorem sound_bodyAt0 (c : Dev nD) : bodyPre m ρ c ⊢ WP c (bodyAt0 (F := F) t₀) fun _ => bodyPost m ρ c := by
  rw [bodyAt0_eq, body_eq]
  exact (sound_body m ρ c).trans (WP_device c _ _)

set_option maxRecDepth 4000 in
theorem body_obligation (c : Dev nD) : BodyObligation (dats (F := F) m ρ 0 c) (defs₀ (F := F)) Variants.none () Set.univ := fun t => by
  rw [show t = t₀ from fin_N0 t]
  rw [show (bigSep Finset.univ _ : sProp 𝕄) = _ from bigSep_W0 _, show (bigSep Finset.univ _ : sProp 𝕄) = _ from bigSep_W0 _]
  rw [show defs₀ (F := F) Proc.tc cfg0.body (cfg0.bodyArgs t₀ (cfg0.slots t₀)) = bodyAt0 t₀ from rfl]
  have h := sound_bodyAt0 m ρ c
  generalize bodyAt0 (F := F) t₀ = prog at h ⊢
  exact h

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prods m ρ) c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem pre₀_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = pre₀ m ρ c from rfl]
  unfold pre₀
  iintro ⟨Hs, -, Hr⟩
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  (∀ c : Dev nD, ∀ w : Fin cfg0.W, r.2.mem ((cfg0.win w).arr.view.loc (c : Thread nD τ)) = finalA m ρ c w) ∧ r.2.sem = fun _ => 0

set_option maxRecDepth 8000 in
theorem run_main : θ_run defs (onTc (τ := τ) (main (F := F))) (s₀ m ρ) (Final m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prods m ρ)) (G' := G' (prods m ρ)) (u₀ := u₀)
    (hu₀ := by
      unfold u₀
      iintro Hu
      ihave H := (ownU_pair _ _) $$ Hu
      icases H with ⟨HP, HX⟩
      imod (fund_cells (prods m ρ)) $$ HX with HG
      imodintro
      isplitl [HP] <;> iassumption)
    (hglob := glob (prods m ρ))
    (hA := fun _ _ => rfl) (hpf := fun _ k => k.elim0)
    (X := start m ρ) (Y := fun c => unscopedSems0 c) (Z := fun _ => iprop(emp))
    (hX := start_intro m ρ) (hin := pre₀_intro m ρ) (hout := fun c => Entails.of_eq rfl)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Run

end
-- ==== Proof.Frames.lean ====
/-
# The frame claims

Each program runs, leaves its arguments as they were and every semaphore at zero: the kernel at the device's own numbers, the
kernel at the ideal numbers and the reference at the ideal numbers. The two printed kernels are one text, so both frames are
the run of `Run.run_main`, at one number system and at the other.
-/
module

public import proofs.«01_k».proof.Defs
public import proofs.«01_k».proof.Proof.Whole
public import proofs.«01_k».proof.Proof.Gen.Kernel
public import proofs.«01_k».proof.Proof.Gen.ReferenceIdeal.Frame

@[expose] public section

noncomputable section

namespace Cert.Parts

open Idealize.ShloMosaic Idealize.SL.Sem

/-- The kernel's run, read at the two arguments, at any number system. -/
theorem run_args {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c (0 : Fin 3)).trans (Cert.KernelIdeal.Run.finalA_x m ρ c),
      (h.1 c (1 : Fin 3)).trans (Cert.KernelIdeal.Run.finalA_w m ρ c)⟩, h.2⟩)
    (Cert.KernelIdeal.Run.run_main m ρ)

theorem frame_kernelIdeal : Cert.quiescent_KernelIdeal (hKernelIdeal := Cert.KernelIdeal.Gen.facts) :=
  fun m ρ _ => run_args (F := Ideal) m ρ

theorem frame_reference : Cert.quiescent_ReferenceIdeal (hReferenceIdeal := Cert.ReferenceIdeal.Gen.facts) :=
  fun m ρ _ => Cert.ReferenceIdeal.Gen.frame m ρ

end Cert.Parts

end
-- ==== Proof.Bits.lean ====
/-
# The frame of the printed kernel

The printed kernel and its ideal reading are the same text: their bodies and their `@main` unfold to one term, and their body
tables agree label by label. So the printed kernel's frame is the run of `Run.run_main` at the device's own numbers.
-/
module

public import proofs.«01_k».proof.Proof.Frames

@[expose] public section

noncomputable section

namespace Cert.Parts

open Idealize.ShloMosaic Idealize.SL.Sem

attribute [local instance] Cert.Kernel.Gen.facts Cert.KernelIdeal.Gen.facts

/-- The two body tables are one: their only label runs the same body. -/
theorem bodies_eq : Cert.Kernel.defs₀ (F := Bits) = Cert.KernelIdeal.defs₀ (F := Bits) := by
  unfold Cert.Kernel.defs₀ Cert.KernelIdeal.defs₀
  refine congrArg _ (funext fun l => funext fun a => ?_)
  match l, a with
  | ⟨0, _⟩, (t, s) => rfl
  | ⟨n + 1, h⟩, _ => exact absurd h (Nat.not_lt.2 (Nat.le_add_left _ _))

theorem tables_eq : Cert.Kernel.defs (F := Bits) = Cert.KernelIdeal.defs (F := Bits) := congrArg (Pipeline.defs Cert.KernelIdeal.pcfgs) bodies_eq

theorem frame_kernel : Cert.quiescent_Kernel (hKernel := Cert.Kernel.Gen.facts) := fun m ρ _ => by
  have h := run_args (F := Bits) m ρ
  rw [← tables_eq] at h
  exact h

end Cert.Parts

end
-- ==== Proof.Quant.lean ====
/-
# What the two programs compute, as one function

At the ideal numbers both programs scale each entry of the product `Z = x · w` by the largest magnitude of the whole product:
`quant g z`, `g` the largest magnitude. The kernel takes the largest magnitude in two steps, each device's own rows first and
then over the devices' answers; since a maximum may be taken in any grouping, it is the reference's.
-/
module

public import proofs.«01_k».proof.Proof.Sound
public import proofs.«01_k».proof.Proof.Gen.ReferenceIdeal.Skeleton
public import proofs.«01_k».proof.Proof.Gen.ReferenceIdeal
public import Idealize.ShloMosaic.Lib.StackMember
public import Idealize.ShloMosaic.Lib.KernelVsHost
public import Idealize.ShloMosaic.Lib.Layout
public import Idealize.ShloMosaic.PureOps.Ideal.Laws

@[expose] public section

noncomputable section

namespace Cert.Parts

open Idealize.ShloMosaic Idealize.ShloMosaic.ValueIdx

/-! ## The largest of a family -/

/-- The pattern both programs start their maxima from. -/
def bot : EReal := FloatOps.ofBits (F := Ideal) .f32 0xFF800000#32
/-- The largest of `bot` and a finite family's entries. -/
def most {ι : Type} [Fintype ι] (f : ι → EReal) : EReal := Finset.univ.fold max bot f

theorem most_le {ι : Type} [Fintype ι] (f : ι → EReal) (c : EReal) : most f ≤ c ↔ bot ≤ c ∧ ∀ i, f i ≤ c := by
  unfold most
  rw [Finset.fold_max_le]
  simp

/-- A maximum over a whole vector is the largest of its entries. -/
theorem reduce_most {s t : Shape} {axes : List (Fin s.rank)} (src : FVec Ideal s .f32) (h : s.Reduces axes t) (ht : ∀ b, t.size b = 1)
    (hφ : FKind.Formats .f32) (hacc : (0xFF800000#32 : BitVec (FTy.bits .f32)) = FKind.maximumf.neutral .f32 hφ) (j : t.Idx) :
    multiReduction .maximumf axes t src 0xFF800000#32 h hφ hacc j = most src := by
  rw [multiReduction_maximumf_eq_fold, Finset.filter_true_of_mem fun i _ => funext fun b => Fin.ext (by
    have := (h.drop i b).isLt; have := (j b).isLt; have := ht b; omega)]
  rfl

/-- Reshaping a vector keeps its largest entry. -/
theorem most_cast {s t : Shape} (f : s.Idx → EReal) (h : s.ShapeCasts t) : most (shapeCast t f h) = most f := by
  refine eq_of_forall_ge_iff fun c => ?_
  rw [most_le, most_le]
  refine and_congr_right fun _ => ⟨fun H i => ?_, fun H i => H _⟩
  have := H ((Shape.reshapeEquiv h).symm i)
  unfold shapeCast at this
  rwa [Equiv.apply_symm_apply] at this

/-- The largest magnitude of a family. -/
def mag {ι : Type} [Fintype ι] (f : ι → EReal) : EReal := most fun i => max (f i) (-f i)

/-- The programs' common entry: scale by the largest magnitude over 448, clamp, scale back. -/
def quant (g z : EReal) : EReal :=
  min (FloatOps.ofBits (F := Ideal) .f32 0x43E00000#32)
      (max (FloatOps.ofBits (F := Ideal) .f32 0xC3E00000#32) (Ideal.div z (Ideal.div g (FloatOps.ofBits (F := Ideal) .f32 0x43E00000#32))))
    * Ideal.div g (FloatOps.ofBits (F := Ideal) .f32 0x43E00000#32)

/-! ## The reference -/

section Reference
open Cert.ReferenceIdeal Cert.ReferenceIdeal.Gen

theorem ref_most (Z : FVec Ideal S4096x2048 .f32) :
    extractAt ![0, 0, 0] (shapeCast S1x1x1 (multiReduction .maximumf [1, 2] S1
        (shapeCast S1x4096x2048 (absf Z) shapeCasts_S4096x2048_S1x4096x2048) 0xFF800000#32 reduces_S1x4096x2048_S1 (.inl rfl) rfl)
      shapeCasts_S1_S1x1x1) inpos_S1x1x1_p0_0_0 = mag Z := by
  exact (reduce_most _ _ (by decide) (.inl rfl) rfl _).trans (most_cast (absf Z) _)

theorem ref_apply (Z : FVec Ideal S4096x2048 .f32) (i : S4096x2048.Idx) : k0_pay1 (F := Ideal) Z i = quant (mag Z) (Z i) := by
  rw [← ref_most]
  unfold k0_pay1
  simp only [shapeCast_self]
  rfl

end Reference

/-! ## The kernel -/

section Kernel
open Cert.KernelIdeal Cert.KernelIdeal.Gen Cert.KernelIdeal.Run

theorem own_most (Y : FVec Ideal S128x2048 .f32) :
    extractAt ![0, 0, 0] (shapeCast S1x1x1 (multiReduction .maximumf [1, 2] S1
        (shapeCast S1x128x2048 (absf Y) shapeCasts_S128x2048_S1x128x2048) 0xFF800000#32 reduces_S1x128x2048_S1 (.inl rfl) rfl)
      shapeCasts_S1_S1x1x1) inpos_S1x1x1_p0_0_0 = mag Y := by
  exact (reduce_most _ _ (by decide) (.inl rfl) rfl _).trans (most_cast (absf Y) _)

/-- A device's own largest magnitude, in every entry of the array it sends. -/
theorem own_apply (Y : FVec Ideal S128x2048 .f32) (i : S8x128.Idx) : k0_pay36 (F := Ideal) Y i = mag Y := by
  have e : k0_pay36 (F := Ideal) Y = shapeCast S8x128 (broadcast S8x128 (extractAt ![0, 0, 0] (shapeCast S1x1x1 (multiReduction .maximumf [1, 2] S1
        (shapeCast S1x128x2048 (absf Y) shapeCasts_S128x2048_S1x128x2048) 0xFF800000#32 reduces_S1x128x2048_S1 (.inl rfl) rfl)
      shapeCasts_S1_S1x1x1) inpos_S1x1x1_p0_0_0)) shapeCasts_S8x128_S8x128 := rfl
  rw [e, own_most, shapeCast_self]
  rfl

theorem gAll_apply (Y : Dev nD → FVec Ideal S128x2048 .f32) (i : S32x8x128.Idx) : gAll Y i = mag (Y ⟨(i 0).val, (i 0).isLt⟩) := by
  unfold gAll k0_pay38
  simp only [shapeCast_self]
  exact own_apply _ _

theorem kernel_most (Y : Dev nD → FVec Ideal S128x2048 .f32) :
    extractAt ![0, 0, 0, 0] (shapeCast S1x1x1x1 (multiReduction .maximumf [1, 2, 3] S1
        (shapeCast S1x32x8x128 (gAll Y) shapeCasts_S32x8x128_S1x32x8x128) 0xFF800000#32 reduces_S1x32x8x128_S1 (.inl rfl) rfl)
      shapeCasts_S1_S1x1x1x1) inpos_S1x1x1x1_p0_0_0_0 = most fun p : Dev nD => mag (Y p) := by
  refine (reduce_most _ _ (by decide) (.inl rfl) rfl _).trans ((most_cast (gAll Y) _).trans (eq_of_forall_ge_iff fun c => ?_))
  rw [most_le, most_le]
  refine and_congr_right fun _ => ⟨fun h p => ?_, fun h i => ?_⟩
  · have := h (ix3 p 0 0 : S32x8x128.Idx)
    rw [gAll_apply] at this
    exact this
  · rw [gAll_apply]
    exact h _

theorem kernel_apply (Y : Dev nD → FVec Ideal S128x2048 .f32) (o : FVec Ideal S4096x64 .f32) (i : S4096x64.Idx) :
    k0_pay39 (gAll Y) o i = quant (most fun p : Dev nD => mag (Y p)) (o i) := by
  rw [← kernel_most]
  unfold k0_pay39
  simp only [shapeCast_self]
  rfl

end Kernel

/-! ## The product -/

section Product
open Cert.KernelIdeal Cert.KernelIdeal.Gen Cert.KernelIdeal.Run

/-- The whole product, as the reference takes it on the host. -/
def prod (X : FVec Ideal ⟨2, ![4096, 4096]⟩ .f32) (W : FVec Ideal ⟨2, ![4096, 2048]⟩ .f32) : FVec Ideal ⟨2, ![4096, 2048]⟩ .f32 :=
  Host.dotGeneral (DotDims.plain 4096 4096 2048) none X W

/-- The row of the whole product that is device `p`'s row `r`. -/
def row (p : Dev nD) (r : Fin 128) : Fin 4096 := ⟨p.val * 128 + r.val, by have h : p.val < 32 := p.isLt; have := r.isLt; omega⟩

variable (X : FVec Ideal ⟨2, ![4096, 4096]⟩ .f32) (W : FVec Ideal ⟨2, ![4096, 2048]⟩ .f32)

/-- Device `p`'s product, from its rows of `X`. -/
def part (p : Dev nD) : FVec Ideal S128x2048 .f32 :=
  k0_pay1 (F := Ideal) (Layout.block ⟨2, ![128, 4096]⟩ ⟨2, ![4096, 4096]⟩ 0 32 p X) W

/-- A device's product is its rows of the whole product. -/
theorem part_apply (p : Dev nD) (r : Fin 128) (j : Fin 2048) : part X W p (ix2 r j) = prod X W (ix2 (row p r) j) := by
  have e : part X W p = Host.dotGeneral (DotDims.plain 128 4096 2048) none (Layout.block ⟨2, ![128, 4096]⟩ ⟨2, ![4096, 4096]⟩ 0 32 p X) W := by
    rw [← matmul_zero_eq_dotGeneral]
    unfold part k0_pay1
    simp only [shapeCast_self]
    rfl
  unfold prod
  rw [e, StackMember.dotGeneral_plain_apply, StackMember.dotGeneral_plain_apply]
  refine Finset.sum_congr rfl fun k _ => ?_
  rw [Layout.block_apply]
  congr 2
  funext a; apply Fin.ext
  fin_cases a <;> rfl

/-- Every entry of a device's product is one of the whole product, -/
theorem part_in (p : Dev nD) (k : S128x2048.Idx) : ∃ i, part X W p k = prod X W i :=
  ⟨_, (congrArg (part X W p) (eq_ix2 k)).trans (part_apply X W p (k 0) (k 1))⟩

/-- and every entry of the whole product is one of some device's. -/
theorem part_onto (i : (⟨2, ![4096, 2048]⟩ : Shape).Idx) : ∃ p k, part X W p k = prod X W i := by
  have hi : (i 0).val < 4096 := (i 0).isLt
  refine ⟨⟨(i 0).val / 128, by show _ < 32; omega⟩, _, (part_apply X W _ ⟨(i 0).val % 128, Nat.mod_lt _ (by decide)⟩ (i 1)).trans (congrArg (prod X W) ?_)⟩
  refine Eq.trans ?_ (eq_ix2 i).symm
  refine congrArg (fun r => ix2 r (i 1)) (Fin.ext ?_)
  show (i 0).val / 128 * 128 + (i 0).val % 128 = (i 0).val
  omega

/-- The largest magnitude over the devices' products is the largest magnitude of the whole product. -/
theorem most_part : (most fun p : Dev nD => mag (part X W p)) = mag (prod X W) := by
  refine eq_of_forall_ge_iff fun c => ?_
  unfold mag
  simp only [most_le]
  refine ⟨fun h => ⟨h.1, fun i => ?_⟩, fun h => ⟨h.1, fun p => ⟨h.1, fun k => ?_⟩⟩⟩
  · obtain ⟨p, k, e⟩ := part_onto X W i
    rw [← e]
    exact (h.2 p).2 k
  · obtain ⟨i, e⟩ := part_in X W p k
    rw [e]
    exact h.2 i

/-- The gathered column block of device `c` is its columns of the whole product. -/
theorem outAll_part (c : Dev nD) (i : S4096x64.Idx) (h : Layout.Tiles ⟨2, ![4096, 64]⟩ ⟨2, ![4096, 2048]⟩ 1 32) :
    outAll (part X W) c i = prod X W (h.idx c i) := by
  have h0 : (i 0).val < 4096 := (i 0).isLt
  have h1 : (i 1).val < 64 := (i 1).isLt
  have hc : c.val < 32 := c.isLt
  unfold outAll col
  refine (extractStridedSlice_apply _ _ _ _
    (ix2 ⟨(i 0).val % 128, Nat.mod_lt _ (by decide)⟩ ⟨64 * c.val + (i 1).val, by omega⟩ : S128x2048.Idx) fun a => ?_).trans ?_
  · fin_cases a
    · show (i 0).val % 128 = 0 + (i 0).val % 128
      omega
    · rfl
  · rw [part_apply]
    congr 1
    funext a; apply Fin.ext
    fin_cases a
    · show (i 0).val / 128 * 128 + (i 0).val % 128 = (i 0).val
      omega
    · show 64 * c.val + (i 1).val = c.val * 64 + (i 1).val
      omega

/-- THE VALUE: what the kernel leaves on device `c` is block `c` of what the reference computes. -/
theorem value_eq (c : Dev nD) :
    k0_pay39 (F := Ideal) (gAll (part X W)) (outAll (part X W) c)
      = Layout.block ⟨2, ![4096, 64]⟩ ⟨2, ![4096, 2048]⟩ 1 32 c (Cert.ReferenceIdeal.Gen.k0_pay1 (F := Ideal) (prod X W)) := by
  funext i
  rw [Layout.block_apply, ref_apply, kernel_apply, most_part, outAll_part]

end Product

end Cert.Parts

end
-- ==== Proof.Value.lean ====
/-
# The value claim

The arrays the two runs leave, read at the arguments: the kernel's result on device `c` is block `c` of the reference's.
-/
module

public import proofs.«01_k».proof.Proof.Frames
public import proofs.«01_k».proof.Proof.Quant
public import proofs.«01_k».proof.Proof.Gen.ReferenceIdeal.Value
public import Idealize.ShloMosaic.Lib.Pipeline.ValueKit

@[expose] public section

noncomputable section

namespace Cert.Parts

open Idealize.ShloMosaic Idealize.ShloMosaic.TcCoe Idealize.ShloMosaic.ValueIdx Idealize.SL.Sem

/-! ## The kernel's arrays -/

section Kernel
open Cert.KernelIdeal Cert.KernelIdeal.Gen Cert.KernelIdeal.Run

variable {F : FTy → Type} [FloatOps F]
variable (m : (ℓ : Loc nD τ sig) → Buf (Elt F) ℓ) (ρ : Dev nD → PrngReg)

theorem emb_x (y : S128x4096.Idx) : (win0_0.blk (0 : Fin 1)).view.emb y = y := by
  blk_ext [show win0_0.index (0 : Fin 1) = fun _ => 0 from rfl]
theorem xstg_eq (c : Dev nD) : xstg m ρ c = m ((c : Thread nD τ).loc main_arg0) := by
  funext y
  unfold xstg
  blk_simp
  rw [emb_x]
  rfl
theorem emb_w (y : S4096x2048.Idx) : (win0_1.blk (0 : Fin 1)).view.emb y = y := by
  blk_ext [show win0_1.index (0 : Fin 1) = fun _ => 0 from rfl]
theorem emb_o (t : Fin cfg0.N) (y : S4096x64.Idx) : (win0_2.blk t).view.emb y = y := by
  blk_ext [show win0_2.index t = fun _ => 0 from rfl]
theorem wstg_eq (c : Dev nD) : wstg m ρ c = m ((c : Thread nD τ).loc main_arg1) := by
  funext y
  unfold wstg
  blk_simp
  rw [emb_w]
  rfl

theorem result_eq (c : Dev nD) : finalA m ρ c (2 : Fin 3) = outAt m ρ c := by
  refine (Run.dats m ρ 0 c).arrAt_eq_of_covers (2 : Fin 3) _ (by decide +kernel) fun t _ y => ?_
  blk_simp
  rw [emb_o t y]
  rfl

end Kernel

/-! ## The reference's -/

section Reference
open Cert.ReferenceIdeal Cert.ReferenceIdeal.Gen

variable (m : (ℓ : Loc nD τ sig) → Buf (Elt Ideal) ℓ)

theorem emb_in (t : Fin cfg0.N) (y : S4096x2048.Idx) : (win0_0.blk t).view.emb y = y := by
  blk_ext [show win0_0.index t = fun _ => 0 from rfl]
theorem emb_out (t : Fin cfg0.N) (y : S4096x2048.Idx) : (win0_1.blk t).view.emb y = y := by
  blk_ext [show win0_1.index t = fun _ => 0 from rfl]

theorem host_eq (c : Dev nD) : V m c main_v0 = prod (m ((c : Thread nD τ).loc main_arg0)) (m ((c : Thread nD τ).loc main_arg1)) := rfl

theorem block_eq (c : Dev nD) (t : Fin cfg0.N) : iblk m c 0 t = V m c main_v0 := by
  funext y
  unfold iblk
  blk_simp
  rw [emb_in t y]

theorem ref_result (c : Dev nD) :
    (dats m 0 c).arrAt 1 cfg0.N = k0_pay1 (F := Ideal) (prod (m ((c : Thread nD τ).loc main_arg0)) (m ((c : Thread nD τ).loc main_arg1))) := by
  refine (dats m 0 c).arrAt_eq_of_covers 1 _ (by decide +kernel) fun t _ y => ?_
  blk_simp
  have z : (![0, 0] : Fin 2 → ℕ) = fun _ => 0 := by funext a; fin_cases a <;> rfl
  rw [emb_out t y, ← host_eq, after0_1, block_eq]
  unfold out0_1
  rw [View.canon_unit_zero z, View.ld_unit_zero z]

end Reference

/-! ## The claim -/

theorem algebraic : Cert.algebraic_KernelIdeal_ReferenceIdeal (hKernelIdeal := Cert.KernelIdeal.Gen.facts)
    (hReferenceIdeal := Cert.ReferenceIdeal.Gen.facts) := fun m g m' g' _ hm => by
  refine ⟨(Cert.ReferenceIdeal.Gen.dats m' 0 0).arrAt 1 Cert.ReferenceIdeal.cfg0.N, ?_, ?_⟩
  · refine (θ_run Cert.KernelIdeal.defs _ _).mono (fun r h c => ⟨?_, (h.1 c (0 : Fin 3)).trans (Cert.KernelIdeal.Run.finalA_x m g c),
      (h.1 c (1 : Fin 3)).trans (Cert.KernelIdeal.Run.finalA_w m g c)⟩) (Cert.KernelIdeal.Run.run_main m g)
    refine (h.1 c (2 : Fin 3)).trans ((result_eq m g c).trans ?_)
    have e : Cert.KernelIdeal.Run.prods m g = part (m' ((0 : Dev Cert.ReferenceIdeal.nD).tc.loc Cert.ReferenceIdeal.main_arg0))
        (m' ((0 : Dev Cert.ReferenceIdeal.nD).tc.loc Cert.ReferenceIdeal.main_arg1)) := by
      funext p
      unfold Cert.KernelIdeal.Run.prods part
      rw [xstg_eq, wstg_eq, (hm p).1, (hm p).2]
    unfold Cert.KernelIdeal.Run.outAt
    rw [ref_result, e]
    exact value_eq _ _ c
  · exact (θ_run Cert.ReferenceIdeal.defs _ _).mono (fun r h => h 0) (Cert.ReferenceIdeal.Value.run_blocks m' g')

end Cert.Parts

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Bits
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Parts.frame_kernel, Cert.Parts.frame_kernelIdeal, Cert.Parts.frame_reference, trivial, Cert.Parts.algebraic⟩

end Cert.Proof

end
